-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![3072, 6144]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1536, 3072]⟩ ⟨2, ![6144, 3072]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S3072x3072 : Shape := ⟨2, ![3072, 3072]⟩
abbrev S2x2x384x3072 : Shape := ⟨4, ![2, 2, 384, 3072]⟩
abbrev S2x384x3072 : Shape := ⟨3, ![2, 384, 3072]⟩
abbrev S2x6 : Shape := ⟨2, ![2, 6]⟩
abbrev S2 : Shape := ⟨1, ![2]⟩
abbrev S_ : Shape := ⟨0, ![]⟩
abbrev S384x1536 : Shape := ⟨2, ![384, 1536]⟩
abbrev S384x3072 : Shape := ⟨2, ![384, 3072]⟩
abbrev S1x1x384x3072 : Shape := ⟨4, ![1, 1, 384, 3072]⟩
abbrev S1x384x3072 : Shape := ⟨3, ![1, 384, 3072]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S3072x3072, .f32⟩
  | .local _ .vmem, ⟨0, _⟩ => ⟨S3072x1536, .f32⟩
  | .local _ .vmem, ⟨1, _⟩ => ⟨S1536x3072, .f32⟩
  | .local _ .vmem, ⟨2, _⟩ => ⟨S2x2x384x3072, .bf16⟩
  | .local _ .vmem, ⟨3, _⟩ => ⟨S2x384x3072, .f32⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c0_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32 : BitVec 32 := 768#32
  let v26 : BitVec 32 := Scalar.muli v2 c768_i32
  let v27 : BitVec 32 := Scalar.addi v26 c0_i32_13
  let v28 : Index := Scalar.indexCast v27
  let c0 : Index := 0#32
  ![v28.toNat, 0]
def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29 : BitVec 32 := 1#32
  let v50 : BitVec 32 := Scalar.muli v13 c1_i32_29
  let v51 : BitVec 32 := Scalar.addi c0_i32_30 v50
  v51.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v52 : BitVec 32 := Scalar.muli v24 c1_i32_32
  let v53 : BitVec 32 := Scalar.addi c0_i32_33 v52
  v53.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v54 : BitVec 32 := Scalar.subi v2 c1_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c768_i32_41 : BitVec 32 := 768#32
  let v65 : BitVec 32 := Scalar.muli v64 c768_i32_41
  let c0_i32_42 : BitVec 32 := 0#32
  let v66 : BitVec 32 := Scalar.addi v65 c0_i32_42
  let v67 : Index := Scalar.indexCast v66
  let c0_43 : Index := 0#32
  ![v67.toNat, 0]
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_58 : BitVec 32 := 1#32
  let v76 : BitVec 32 := Scalar.muli v24 c1_i32_58
  let v77 : BitVec 32 := Scalar.addi c0_i32_59 v76
  v77.toNat
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_72 : BitVec 32 := 1#32
  let v86 : BitVec 32 := Scalar.muli v13 c1_i32_72
  let v87 : BitVec 32 := Scalar.addi c0_i32_73 v86
  v87.toNat
def k0_off3 (d0 : Dev nD) (c0_i32_79 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_78 : BitVec 32 := 1#32
  let v96 : BitVec 32 := Scalar.addi v2 c1_i32_78
  let v97 : BitVec 32 := Scalar.addi v96 c0_i32_79
  let c4_i32_80 : BitVec 32 := 4#32
  let c0_i32_81 : BitVec 32 := 0#32
  let v98 : BitVec 1 := Scalar.cmpi .eq c4_i32_80 c0_i32_81
  let c1_i32_82 : BitVec 32 := 1#32
  let v99 : BitVec 32 := Scalar.select v98 c1_i32_82 c4_i32_80
  let v100 : BitVec 32 := Scalar.remsi v97 v99
  let c0_i32_84 : BitVec 32 := 0#32
  let v102 : BitVec 1 := Scalar.cmpi .slt v100 c0_i32_84
  let c0_i32_85 : BitVec 32 := 0#32
  let v103 : BitVec 1 := Scalar.cmpi .slt v99 c0_i32_85
  let v104 : BitVec 1 := Scalar.xori v102 v103
  let c0_i32_83 : BitVec 32 := 0#32
  let v101 : BitVec 1 := Scalar.cmpi .ne v100 c0_i32_83
  let v105 : BitVec 1 := Scalar.andi v104 v101
  let v106 : BitVec 32 := Scalar.addi v100 v99
  let v107 : BitVec 32 := Scalar.select v105 v106 v100
  let c768_i32_86 : BitVec 32 := 768#32
  let v108 : BitVec 32 := Scalar.muli v107 c768_i32_86
  let c384_i32_87 : BitVec 32 := 384#32
  let v109 : BitVec 32 := Scalar.addi v108 c384_i32_87
  let v110 : Index := Scalar.indexCast v109
  let c0_88 : Index := 0#32
  ![v110.toNat, 0]
def k0_off4 (d0 : Dev nD) (c0_i32_134 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v143 : BitVec 32 := Scalar.subi v2 c2_i32_133
  let v144 : BitVec 32 := Scalar.subi v143 c0_i32_134
  let c4_i32_135 : BitVec 32 := 4#32
  let c0_i32_136 : BitVec 32 := 0#32
  let v145 : BitVec 1 := Scalar.cmpi .eq c4_i32_135 c0_i32_136
  let c1_i32_137 : BitVec 32 := 1#32
  let v146 : BitVec 32 := Scalar.select v145 c1_i32_137 c4_i32_135
  let v147 : BitVec 32 := Scalar.remsi v144 v146
  let c0_i32_139 : BitVec 32 := 0#32
  let v149 : BitVec 1 := Scalar.cmpi .slt v147 c0_i32_139
  let c0_i32_140 : BitVec 32 := 0#32
  let v150 : BitVec 1 := Scalar.cmpi .slt v146 c0_i32_140
  let v151 : BitVec 1 := Scalar.xori v149 v150
  let c0_i32_138 : BitVec 32 := 0#32
  let v148 : BitVec 1 := Scalar.cmpi .ne v147 c0_i32_138
  let v152 : BitVec 1 := Scalar.andi v151 v148
  let v153 : BitVec 32 := Scalar.addi v147 v146
  let v154 : BitVec 32 := Scalar.select v152 v153 v147
  let c768_i32_141 : BitVec 32 := 768#32
  let v155 : BitVec 32 := Scalar.muli v154 c768_i32_141
  let c0_i32_142 : BitVec 32 := 0#32
  let v156 : BitVec 32 := Scalar.addi v155 c0_i32_142
  let v157 : Index := Scalar.indexCast v156
  let c0_143 : Index := 0#32
  ![v157.toNat, 0]
def k0_dev5 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_189 : BitVec 32 := 1#32
  let v190 : BitVec 32 := Scalar.muli v13 c1_i32_189
  let v191 : BitVec 32 := Scalar.addi c0_i32_190 v190
  v191.toNat
def k0_dev6 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_192 : BitVec 32 := 1#32
  let v192 : BitVec 32 := Scalar.muli v24 c1_i32_192
  let v193 : BitVec 32 := Scalar.addi c0_i32_193 v192
  v193.toNat
def k0_dev7 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_204 : BitVec 32 := 1#32
  let v194 : BitVec 32 := Scalar.muli v24 c1_i32_204
  let v195 : BitVec 32 := Scalar.addi c0_i32_205 v194
  v195.toNat
def k0_dev8 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_218 : BitVec 32 := 1#32
  let v204 : BitVec 32 := Scalar.muli v13 c1_i32_218
  let v205 : BitVec 32 := Scalar.addi c0_i32_219 v204
  v205.toNat
def k0_dev9 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_335 : BitVec 32 := 1#32
  let v308 : BitVec 32 := Scalar.muli v13 c1_i32_335
  let v309 : BitVec 32 := Scalar.addi c0_i32_336 v308
  v309.toNat
def k0_dev10 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_338 : BitVec 32 := 1#32
  let v310 : BitVec 32 := Scalar.muli v24 c1_i32_338
  let v311 : BitVec 32 := Scalar.addi c0_i32_339 v310
  v311.toNat
def k0_dev11 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_350 : BitVec 32 := 1#32
  let v312 : BitVec 32 := Scalar.muli v24 c1_i32_350
  let v313 : BitVec 32 := Scalar.addi c0_i32_351 v312
  v313.toNat
def k0_dev12 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_364 : BitVec 32 := 1#32
  let v322 : BitVec 32 := Scalar.muli v13 c1_i32_364
  let v323 : BitVec 32 := Scalar.addi c0_i32_365 v322
  v323.toNat
def k0_off5 (d0 : Dev nD) (c1_i32_463 : BitVec 32) (c0_i32_492 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v403 : BitVec 32 := Scalar.addi v2 c1_i32_463
  let c4_i32_464 : BitVec 32 := 4#32
  let c0_i32_465 : BitVec 32 := 0#32
  let v404 : BitVec 1 := Scalar.cmpi .eq c4_i32_464 c0_i32_465
  let c1_i32_466 : BitVec 32 := 1#32
  let v405 : BitVec 32 := Scalar.select v404 c1_i32_466 c4_i32_464
  let v406 : BitVec 32 := Scalar.remsi v403 v405
  let c0_i32_468 : BitVec 32 := 0#32
  let v408 : BitVec 1 := Scalar.cmpi .slt v406 c0_i32_468
  let c0_i32_469 : BitVec 32 := 0#32
  let v409 : BitVec 1 := Scalar.cmpi .slt v405 c0_i32_469
  let v410 : BitVec 1 := Scalar.xori v408 v409
  let c0_i32_467 : BitVec 32 := 0#32
  let v407 : BitVec 1 := Scalar.cmpi .ne v406 c0_i32_467
  let v411 : BitVec 1 := Scalar.andi v410 v407
  let v412 : BitVec 32 := Scalar.addi v406 v405
  let v413 : BitVec 32 := Scalar.select v411 v412 v406
  let c768_i32_491 : BitVec 32 := 768#32
  let v437 : BitVec 32 := Scalar.muli v413 c768_i32_491
  let v438 : BitVec 32 := Scalar.addi v437 c0_i32_492
  let c0_i32_495 : BitVec 32 := 0#32
  ![v438.toNat, 0]
def k0_off5_at (r : Fin 4) : BitVec 32 × BitVec 32 :=
  if r.val < 2 then
    if r.val < 1 then
      (1#32, 0#32)
    else
      (0#32, 384#32)
  else
    if r.val < 3 then
      (1#32, 384#32)
    else
      (2#32, 384#32)
def k0_off6 (d0 : Dev nD) (c1_i32_470 : BitVec 32) (c384_i32_499 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v414 : BitVec 32 := Scalar.subi v2 c1_i32_470
  let c4_i32_471 : BitVec 32 := 4#32
  let c0_i32_472 : BitVec 32 := 0#32
  let v415 : BitVec 1 := Scalar.cmpi .eq c4_i32_471 c0_i32_472
  let c1_i32_473 : BitVec 32 := 1#32
  let v416 : BitVec 32 := Scalar.select v415 c1_i32_473 c4_i32_471
  let v417 : BitVec 32 := Scalar.remsi v414 v416
  let c0_i32_475 : BitVec 32 := 0#32
  let v419 : BitVec 1 := Scalar.cmpi .slt v417 c0_i32_475
  let c0_i32_476 : BitVec 32 := 0#32
  let v420 : BitVec 1 := Scalar.cmpi .slt v416 c0_i32_476
  let v421 : BitVec 1 := Scalar.xori v419 v420
  let c0_i32_474 : BitVec 32 := 0#32
  let v418 : BitVec 1 := Scalar.cmpi .ne v417 c0_i32_474
  let v422 : BitVec 1 := Scalar.andi v421 v418
  let v423 : BitVec 32 := Scalar.addi v417 v416
  let v424 : BitVec 32 := Scalar.select v422 v423 v417
  let c768_i32_498 : BitVec 32 := 768#32
  let v444 : BitVec 32 := Scalar.muli v424 c768_i32_498
  let v445 : BitVec 32 := Scalar.addi v444 c384_i32_499
  let c0_i32_502 : BitVec 32 := 0#32
  ![v445.toNat, 0]
def k0_off6_at (r : Fin 4) : BitVec 32 × BitVec 32 :=
  if r.val < 2 then
    if r.val < 1 then
      (1#32, 384#32)
    else
      (0#32, 0#32)
  else
    if r.val < 3 then
      (1#32, 0#32)
    else
      (2#32, 0#32)
def k0_dev13 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_516 : BitVec 32 := 1#32
  let v461 : BitVec 32 := Scalar.muli v13 c1_i32_516
  let v462 : BitVec 32 := Scalar.addi c0_i32_517 v461
  v462.toNat
def k0_dev14 (d0 : Dev nD) : Nat :=
  let c0_i32_520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_519 : BitVec 32 := 1#32
  let v463 : BitVec 32 := Scalar.muli v24 c1_i32_519
  let v464 : BitVec 32 := Scalar.addi c0_i32_520 v463
  v464.toNat
def k0_dev15 (d0 : Dev nD) : Nat :=
  let c0_i32_531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_530 : BitVec 32 := 1#32
  let v465 : BitVec 32 := Scalar.muli v24 c1_i32_530
  let v466 : BitVec 32 := Scalar.addi c0_i32_531 v465
  v466.toNat
def k0_dev16 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_544 : BitVec 32 := 1#32
  let v475 : BitVec 32 := Scalar.muli v13 c1_i32_544
  let v476 : BitVec 32 := Scalar.addi c0_i32_545 v475
  v476.toNat
def k0_dev17 (d0 : Dev nD) : Nat :=
  let c0_i32_658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_657 : BitVec 32 := 1#32
  let v571 : BitVec 32 := Scalar.muli v13 c1_i32_657
  let v572 : BitVec 32 := Scalar.addi c0_i32_658 v571
  v572.toNat
def k0_dev18 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_660 : BitVec 32 := 1#32
  let v573 : BitVec 32 := Scalar.muli v24 c1_i32_660
  let v574 : BitVec 32 := Scalar.addi c0_i32_661 v573
  v574.toNat
def k0_dev19 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_672 : BitVec 32 := 1#32
  let v575 : BitVec 32 := Scalar.muli v24 c1_i32_672
  let v576 : BitVec 32 := Scalar.addi c0_i32_673 v575
  v576.toNat
def k0_dev20 (d0 : Dev nD) : Nat :=
  let c0_i32_687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_686 : BitVec 32 := 1#32
  let v585 : BitVec 32 := Scalar.muli v13 c1_i32_686
  let v586 : BitVec 32 := Scalar.addi c0_i32_687 v585
  v586.toNat
def k0_dev21 (d0 : Dev nD) : Nat :=
  let c0_i32_800 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_799 : BitVec 32 := 1#32
  let v681 : BitVec 32 := Scalar.muli v13 c1_i32_799
  let v682 : BitVec 32 := Scalar.addi c0_i32_800 v681
  v682.toNat
def k0_dev22 (d0 : Dev nD) : Nat :=
  let c0_i32_803 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_802 : BitVec 32 := 1#32
  let v683 : BitVec 32 := Scalar.muli v24 c1_i32_802
  let v684 : BitVec 32 := Scalar.addi c0_i32_803 v683
  v684.toNat
def k0_dev23 (d0 : Dev nD) : Nat :=
  let c0_i32_814 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_813 : BitVec 32 := 1#32
  let v685 : BitVec 32 := Scalar.muli v24 c1_i32_813
  let v686 : BitVec 32 := Scalar.addi c0_i32_814 v685
  v686.toNat
def k0_dev24 (d0 : Dev nD) : Nat :=
  let c0_i32_828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_827 : BitVec 32 := 1#32
  let v695 : BitVec 32 := Scalar.muli v13 c1_i32_827
  let v696 : BitVec 32 := Scalar.addi c0_i32_828 v695
  v696.toNat
abbrev stage0_0 : Fin 1 → Memref sig .tc .vmem S3072x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S3072x6144 : Shape := ⟨2, ![3072, 6144]⟩
abbrev S6144x3072 : Shape := ⟨2, ![6144, 3072]⟩
abbrev S3072x3072 : Shape := ⟨2, ![3072, 3072]⟩

abbrev nBuf : Space → Nat
  | .hbm => 3
  | .vmem => 0
  | .smem => 0
  | _ => 0

abbrev bufTy : (tb : Table) → Fin (tcTables nBuf tb) → BufTy
  | .hbm, ⟨0, _⟩ => ⟨S3072x6144, .f32⟩
  | .hbm, ⟨1, _⟩ => ⟨S6144x3072, .f32⟩
  | .hbm, ⟨2, _⟩ => ⟨S3072x3072, .f32⟩
  | _, _ => ⟨S3072x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.RingIdeal.Proto.lean ====
/-
# The ring's protocol

A ring of four devices reduces and then gathers a product of two matrices cut along the contracted dimension. Six hops,
numbered 0..5 (0, 1, 2 reduce; 3, 4, 5 gather); at each, every device sends one buffer to its right neighbour (direction 0)
and one to its left neighbour (direction 1), out of the slot of the hop's parity into the neighbour's slot of the other
parity. Before each hop a two-sided handshake on the runtime's barrier semaphore: device `c` signals its left and then its
right neighbour and waits for two.

Cells of a device, duty names `Bool`:
* its barrier cell, rounds 0..5, one per hop: duty `true` paid by the right neighbour, handing over that neighbour's
  landing slot of direction 0; duty `false` paid by the left neighbour, handing over its landing slot of direction 1;
* a send cell per direction and hop, one round: the source slot comes back, with its contents;
* a receive cell per direction and hop, one round: the landing slot with the sender's contents, and the fact that the
  sender has passed the handshake of that hop (which the next signal to it needs);
* a copy cell per direction, four rounds: the copies of finished tiles into the result array.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the ring's (duties `Bool`); tallies are
    indexed by hop or round -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- Whom device `c` sends to in direction `r`, and whom it receives from. -/
def dst : ℕ → Dev nD → Dev nD | 0, c => nxt c | _ + 1, c => prv c
def src : ℕ → Dev nD → Dev nD | 0, c => prv c | _ + 1, c => nxt c
theorem src_dst (r : ℕ) (c : Dev nD) : src r (dst r c) = c := by cases r; exact prv_nxt c; exact nxt_prv c
theorem dst_src (r : ℕ) (c : Dev nD) : dst r (src r c) = c := by cases r; exact nxt_prv c; exact prv_nxt c

/-- The kernel's device chains. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = prv c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = prv c := by revert c; decide +kernel
theorem dev10_eq (c : Dev nD) : (⟨k0_dev10 c, k0_dev10_lt c⟩ : Dev nD) = nxt c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = prv c := by revert c; decide +kernel
theorem dev13_eq (c : Dev nD) : (⟨k0_dev13 c, k0_dev13_lt c⟩ : Dev nD) = prv c := by revert c; decide +kernel
theorem dev14_eq (c : Dev nD) : (⟨k0_dev14 c, k0_dev14_lt c⟩ : Dev nD) = nxt c := by revert c; decide +kernel
theorem dev15_eq (c : Dev nD) : (⟨k0_dev15 c, k0_dev15_lt c⟩ : Dev nD) = nxt c := by revert c; decide +kernel
theorem dev16_eq (c : Dev nD) : (⟨k0_dev16 c, k0_dev16_lt c⟩ : Dev nD) = prv c := by revert c; decide +kernel
theorem dev17_eq (c : Dev nD) : (⟨k0_dev17 c, k0_dev17_lt c⟩ : Dev nD) = prv c := by revert c; decide +kernel
theorem dev18_eq (c : Dev nD) : (⟨k0_dev18 c, k0_dev18_lt c⟩ : Dev nD) = nxt c := by revert c; decide +kernel
theorem dev19_eq (c : Dev nD) : (⟨k0_dev19 c, k0_dev19_lt c⟩ : Dev nD) = nxt c := by revert c; decide +kernel
theorem dev20_eq (c : Dev nD) : (⟨k0_dev20 c, k0_dev20_lt c⟩ : Dev nD) = prv c := by revert c; decide +kernel
theorem dev21_eq (c : Dev nD) : (⟨k0_dev21 c, k0_dev21_lt c⟩ : Dev nD) = prv c := by revert c; decide +kernel
theorem dev22_eq (c : Dev nD) : (⟨k0_dev22 c, k0_dev22_lt c⟩ : Dev nD) = nxt c := by revert c; decide +kernel
theorem dev23_eq (c : Dev nD) : (⟨k0_dev23 c, k0_dev23_lt c⟩ : Dev nD) = nxt c := by revert c; decide +kernel
theorem dev24_eq (c : Dev nD) : (⟨k0_dev24 c, k0_dev24_lt c⟩ : Dev nD) = prv c := by revert c; decide +kernel

/-! ## The memrefs, the slots and the tiles -/

abbrev xaM : Memref sig .tc .vmem S3072x1536 .f32 := Memref.whole cc0_stg0_0
abbrev xbM : Memref sig .tc .vmem S1536x3072 .f32 := Memref.whole cc0_stg1_0
abbrev outM : Memref sig .tc .hbm S3072x3072 .f32 := Memref.whole main_v1
abbrev commM : Memref sig .tc .vmem S2x2x384x3072 .bf16 := Memref.whole cc0_scratch0
abbrev tmpM : Memref sig .tc .vmem S2x384x3072 .f32 := Memref.whole cc0_scratch1

theorem slot_inb (r k : ℕ) : ∀ a, (![r % 2, k % 2, 0, 0] : Fin 4 → ℕ) a + S1x1x384x3072.size a ≤ S2x2x384x3072.size a := by
  have h1 := Nat.mod_lt r (y := 2) (by decide); have h2 := Nat.mod_lt k (y := 2) (by decide)
  intro a; fin_cases a <;> simp <;> omega
/-- The slot of direction `r` used as source at hop `k` (its parity). -/
abbrev slotRect (r k : ℕ) : Rect S2x2x384x3072 := Rect.unit (s := S2x2x384x3072) ![r % 2, k % 2, 0, 0] S1x1x384x3072.size (slot_inb r k)
abbrev slotM (r k : ℕ) : Memref sig .tc .vmem S384x3072 .bf16 :=
  (commM.slice (slotRect r k) (fun _ => rfl)).squeeze S384x3072 squeezes_S1x1x384x3072_S384x3072

theorem tmp_inb (r : ℕ) : ∀ a, (![r % 2, 0, 0] : Fin 3 → ℕ) a + S1x384x3072.size a ≤ S2x384x3072.size a := by
  have h1 := Nat.mod_lt r (y := 2) (by decide)
  intro a; fin_cases a <;> simp <;> omega
abbrev tmpRect (r : ℕ) : Rect S2x384x3072 := Rect.unit (s := S2x384x3072) ![r % 2, 0, 0] S1x384x3072.size (tmp_inb r)
abbrev tmpSM (r : ℕ) : Memref sig .tc .vmem S384x3072 .f32 :=
  (tmpM.slice (tmpRect r) (fun _ => rfl)).squeeze S384x3072 squeezes_S1x384x3072_S384x3072

/-- The first row of half `r` of row block `b`. -/
def row (b r : ℕ) : ℕ := 768 * (b % 4) + 384 * (r % 2)
theorem row_le (b r : ℕ) : row b r + 384 ≤ 3072 := by
  have h1 := Nat.mod_lt r (y := 2) (by decide); have h2 := Nat.mod_lt b (y := 4) (by decide)
  unfold row; omega
theorem arow_inb (b r : ℕ) : ∀ a, (![row b r, 0] : Fin 2 → ℕ) a + S384x1536.size a ≤ S3072x1536.size a := by
  have := row_le b r
  intro a; fin_cases a <;> simp <;> omega
theorem orow_inb (b r : ℕ) : ∀ a, (![row b r, 0] : Fin 2 → ℕ) a + S384x3072.size a ≤ S3072x3072.size a := by
  have := row_le b r
  intro a; fin_cases a <;> simp <;> omega
abbrev aRect (b r : ℕ) : Rect S3072x1536 := Rect.unit (s := S3072x1536) ![row b r, 0] S384x1536.size (arow_inb b r)
abbrev oRect (b r : ℕ) : Rect S3072x3072 := Rect.unit (s := S3072x3072) ![row b r, 0] S384x3072.size (orow_inb b r)
abbrev outSM (b r : ℕ) : Memref sig .tc .hbm S384x3072 .f32 := outM.slice (oRect b r) (fun _ => rfl)

/-- The row block device `c` adds in direction `r` at hop `k` of the reduction, and the block it stores in direction `r` as
    its `j`-th finished tile. -/
def ablk : ℕ → ℕ → Dev nD → ℕ | 0, k, c => c.val + 7 - k | _ + 1, k, c => c.val + 1 + k
def oblk : ℕ → ℕ → Dev nD → ℕ | 0, j, c => c.val + 5 - j | _ + 1, j, c => c.val + 3 + j

theorem off1_0 (c : Dev nD) : k0_off1 c 0#32 = ![row c.val 0, 0] := by revert c; decide +kernel
theorem off1_1 (c : Dev nD) : k0_off1 c 384#32 = ![row c.val 1, 0] := by revert c; decide +kernel
theorem off2_0 (c : Dev nD) : k0_off2 c = ![row (ablk 0 0 c) 0, 0] := by revert c; decide +kernel
theorem off4_0 (c : Dev nD) : k0_off4 c 0#32 = ![row (ablk 0 1 c) 0, 0] := by revert c; decide +kernel
theorem off4_1 (c : Dev nD) : k0_off4 c 1#32 = ![row (ablk 0 2 c) 0, 0] := by revert c; decide +kernel
theorem off3_0 (c : Dev nD) : k0_off3 c 0#32 = ![row (ablk 1 0 c) 1, 0] := by revert c; decide +kernel
theorem off3_1 (c : Dev nD) : k0_off3 c 1#32 = ![row (ablk 1 1 c) 1, 0] := by revert c; decide +kernel
theorem off3_2 (c : Dev nD) : k0_off3 c 2#32 = ![row (ablk 1 2 c) 1, 0] := by revert c; decide +kernel
theorem off5_0 (c : Dev nD) : k0_off5 c 1#32 0#32 = ![row (oblk 0 0 c) 0, 0] := by revert c; decide +kernel
theorem off6_0 (c : Dev nD) : k0_off6 c 1#32 384#32 = ![row (oblk 1 0 c) 1, 0] := by revert c; decide +kernel
theorem off6_1 (c : Dev nD) : k0_off6 c 0#32 0#32 = ![row (oblk 0 1 c) 0, 0] := by revert c; decide +kernel
theorem off5_1 (c : Dev nD) : k0_off5 c 0#32 384#32 = ![row (oblk 1 1 c) 1, 0] := by revert c; decide +kernel
theorem off6_2 (c : Dev nD) : k0_off6 c 1#32 0#32 = ![row (oblk 0 2 c) 0, 0] := by revert c; decide +kernel
theorem off5_2 (c : Dev nD) : k0_off5 c 1#32 384#32 = ![row (oblk 1 2 c) 1, 0] := by revert c; decide +kernel
theorem off6_3 (c : Dev nD) : k0_off6 c 2#32 0#32 = ![row (oblk 0 3 c) 0, 0] := by revert c; decide +kernel
theorem off5_3 (c : Dev nD) : k0_off5 c 2#32 384#32 = ![row (oblk 1 3 c) 1, 0] := by revert c; decide +kernel

/-! ## The cells -/

/-- The runtime's barrier semaphore of collective id 0 (unscoped); the DMA semaphores (scoped scratch). -/
abbrev barS : Sem sig := (SemArray.scalar (sig.barrier 0 rfl) : Sems sig S_).sem

theorem sem_inb (r k : ℕ) : ∀ a, (![r % 2, k % 6] : Fin 2 → ℕ) a + S1x1.size a ≤ S2x6.size a := by
  have h1 := Nat.mod_lt r (y := 2) (by decide); have h2 := Nat.mod_lt k (y := 6) (by decide)
  intro a; fin_cases a <;> simp <;> omega
theorem csem_inb (r : ℕ) : ∀ a, (![r % 2] : Fin 1 → ℕ) a + S1.size a ≤ S2.size a := by
  have h1 := Nat.mod_lt r (y := 2) (by decide)
  intro a; fin_cases a; simp; omega
abbrev sndS (r k : ℕ) : DmaSem sig := ((cc0_scratch2.slice (Rect.unit (s := S2x6) ![r % 2, k % 6] S1x1.size (sem_inb r k))).squeeze S_ squeezes_S1x1_S_).sem
abbrev rcvS (r k : ℕ) : DmaSem sig := ((cc0_scratch3.slice (Rect.unit (s := S2x6) ![r % 2, k % 6] S1x1.size (sem_inb r k))).squeeze S_ squeezes_S1x1_S_).sem
abbrev cpyS (r : ℕ) : DmaSem sig := ((cc0_scratch4.slice (Rect.unit (s := S2) ![r % 2] S1.size (csem_inb r))).squeeze S_ squeezes_S1_S_).sem

abbrev barCell (c : Dev nD) : GSem nD τ sig := ((c : Thread nD τ), .reg barS)
abbrev sndCell (r k : ℕ) (c : Dev nD) : GSem nD τ sig := ((c : Thread nD τ), .dma (sndS r k))
abbrev rcvCell (r k : ℕ) (c : Dev nD) : GSem nD τ sig := ((c : Thread nD τ), .dma (rcvS r k))
abbrev cpyCell (r : ℕ) (c : Dev nD) : GSem nD τ sig := ((c : Thread nD τ), .dma (cpyS r))

/-- What a semaphore is to the protocol. -/
inductive Role where
  | bar | snd (r k : ℕ) | rcv (r k : ℕ) | cpy (r : ℕ) | none
deriving DecidableEq

def role : SemLoc sig → Role
  | .reg _ => .bar
  | .dma q => if q.val < 2 then .none else if q.val < 14 then .snd ((q.val - 2) / 6) ((q.val - 2) % 6)
      else if q.val < 26 then .rcv ((q.val - 14) / 6) ((q.val - 14) % 6) else .cpy (q.val - 26)

theorem role_bar : role (.reg barS) = .bar := rfl
theorem role_snd' : ∀ (r : Fin 2) (k : Fin 6), role (.dma (sndS r.val k.val)) = .snd r.val k.val := by decide +kernel
theorem role_rcv' : ∀ (r : Fin 2) (k : Fin 6), role (.dma (rcvS r.val k.val)) = .rcv r.val k.val := by decide +kernel
theorem role_cpy' : ∀ (r : Fin 2), role (.dma (cpyS r.val)) = .cpy r.val := by decide +kernel
theorem role_snd {r k : ℕ} (hr : r < 2) (hk : k < 6) : role (.dma (sndS r k)) = .snd r k := role_snd' ⟨r, hr⟩ ⟨k, hk⟩
theorem role_rcv {r k : ℕ} (hr : r < 2) (hk : k < 6) : role (.dma (rcvS r k)) = .rcv r k := role_rcv' ⟨r, hr⟩ ⟨k, hk⟩
theorem role_cpy {r : ℕ} (hr : r < 2) : role (.dma (cpyS r)) = .cpy r := role_cpy' ⟨r, hr⟩

/-- The credit of one slot's transfer, and of one tile's copy. -/
def N : ℕ := (slotM 0 0).view.dmaCredit
def NC : ℕ := (outSM 0 0).view.dmaCredit
theorem N_pos : 0 < N := View.dmaCredit_pos _ (by decide)
theorem NC_pos : 0 < NC := View.dmaCredit_pos _ (by decide)
theorem credit_slot (r k : ℕ) (s : DmaSem sig) : (slotM r k).view.amount (.dma s) = N := rfl
theorem credit_out (b r : ℕ) (s : DmaSem sig) : (outSM b r).view.amount (.dma s) = NC := rfl
attribute [irreducible] N NC

/-! ## Contents -/

/-- What device `c`'s staging buffers hold: its blocks of the two operands. -/
def xA (c : Dev nD) : (cc0_stg0_0 : Ref sig .tc).ty.Contents (Elt F) :=
  (win0_0.blk (0 : Fin 1)).view.read (Elt F) (m ((c : Thread nD τ).loc main_arg0))
def xB (c : Dev nD) : (cc0_stg1_0 : Ref sig .tc).ty.Contents (Elt F) :=
  (win0_1.blk (0 : Fin 1)).view.read (Elt F) (m ((c : Thread nD τ).loc main_arg1))

/-- Half `r` of row block `b` of device `c`'s block of the left operand. -/
def aRow (c : Dev nD) (b r : ℕ) : Vec F S384x1536 .f32 := xaM.view.readAt (Elt F) (aRect b r).toLoadRect (xA m c)

/-- Device `c`'s partial product for half `r` of row block `b`. -/
def part (c : Dev nD) (b r : ℕ) : Vec F S1x384x3072 .f32 := k0_pay4 (aRow m c b r) (xB m c)

/-- What device `c` sends in direction `r` at hop `k`: at hop 0 its own partial product of its own block; in the reduction
    what it received plus its partial product; in the gathering what it received. -/
def V (r : ℕ) : ℕ → Dev nD → Vec F S1x1x384x3072 .bf16
  | 0, c => k0_pay3 (aRow m c c.val r) (xB m c)
  | k + 1, c => if k < 3 then k0_pay6 (V r k (src r c)) (part m c (ablk r k c) r) else V r k (src r c)

theorem V_zero (r : ℕ) (c : Dev nD) : V m r 0 c = k0_pay3 (aRow m c c.val r) (xB m c) := rfl
theorem V_add {r k : ℕ} (hk : k < 3) (c : Dev nD) : V m r (k + 1) c = k0_pay6 (V m r k (src r c)) (part m c (ablk r k c) r) := if_pos hk
theorem V_fwd {r k : ℕ} (hk : ¬ k < 3) (c : Dev nD) : V m r (k + 1) c = V m r k (src r c) := if_neg hk

/-- The `j`-th finished tile of direction `r` on device `c`. -/
def tile (r j : ℕ) (c : Dev nD) : Vec F S1x384x3072 .f32 := k0_pay22 (V m r (3 + j) c)

/-! ## Ownership of a slot, a scratch tile, a tile of the result -/

def slotP (c : Dev nD) (r k : ℕ) (v : Vec F S1x1x384x3072 .bf16) : sProp 𝕄 :=
  iprop(∃ f, ⌜(commM.access (slotRect r k)).read (Elt F) f = v⌝
    ∗ ((commM.access (slotRect r k)).loc (c : Thread nD τ) ↦[(commM.access (slotRect r k)).set]{fullShare} f))
def tmpP (c : Dev nD) (r : ℕ) (v : Vec F S1x384x3072 .f32) : sProp 𝕄 :=
  iprop(∃ f, ⌜(tmpM.access (tmpRect r)).read (Elt F) f = v⌝
    ∗ ((tmpM.access (tmpRect r)).loc (c : Thread nD τ) ↦[(tmpM.access (tmpRect r)).set]{fullShare} f))
def outP (c : Dev nD) (b r : ℕ) (v : Vec F S384x3072 .f32) : sProp 𝕄 :=
  iprop(∃ f, ⌜(outSM b r).view.read (Elt F) f = v⌝
    ∗ ((outSM b r).view.loc (c : Thread nD τ) ↦[(outSM b r).view.set]{fullShare} f))
/-- A tile as the result array holds it. -/
abbrev flat (v : Vec F S1x384x3072 .f32) : Vec F S384x3072 .f32 := shapeCast S384x3072 v shapeCasts_S1x384x3072_S384x3072

omit [FloatOps F] in
instance slotP_storable (c : Dev nD) (r k : ℕ) (v) : BI.Storable (upEmb : UEmb _ 𝕄) (slotP (F := F) c r k v) := by unfold slotP; infer_instance
omit [FloatOps F] in
instance tmpP_storable (c : Dev nD) (r : ℕ) (v) : BI.Storable (upEmb : UEmb _ 𝕄) (tmpP (F := F) c r v) := by unfold tmpP; infer_instance
omit [FloatOps F] in
instance outP_storable (c : Dev nD) (b r : ℕ) (v) : BI.Storable (upEmb : UEmb _ 𝕄) (outP (F := F) c b r v) := by unfold outP; infer_instance

/-! ## The schedule -/

def dutiesOf : Role → ℕ → Finset Bool
  | .bar, k => if k < 6 then Finset.univ else ∅
  | .snd _ _, k => if k = 0 then {false} else ∅
  | .rcv _ _, k => if k = 0 then {false} else ∅
  | .cpy _, k => if k < 4 then {false} else ∅
  | .none, _ => ∅
def amountOf' : Role → ℕ
  | .bar => 1 | .snd _ _ => N | .rcv _ _ => N | .cpy _ => NC | .none => 1
theorem amountOf'_pos : ∀ ro : Role, 0 < amountOf' ro
  | .bar => Nat.one_pos | .snd _ _ => N_pos | .rcv _ _ => N_pos | .cpy _ => NC_pos | .none => Nat.one_pos
def payOf (c : Dev nD) : Role → ℕ → Bool → sProp 𝕄
  | .bar, k, true => iprop(∃ v, slotP (nxt c) 0 (k + 1) v)
  | .bar, k, false => iprop(∃ v, slotP (prv c) 1 (k + 1) v)
  | .snd r j, _, _ => slotP c r j (V m r j c)
  | .rcv r j, _, _ => iprop(slotP c r (j + 1) (V m r j (src r c)) ∗ reached ER (barCell (src r c)) (j + 1))
  | .cpy r, j, _ => iprop(tmpP c r (tile m r j c) ∗ outP c (oblk r j c) r (flat (tile m r j c)))
  | .none, _, _ => iprop(emp)

def ringRd : Rounds.Schedule (GSem nD τ sig) Bool 𝕄 where
  duties g k := if g.1.2 = .tc then dutiesOf (role g.2) k else ∅
  unitless _ := False
  amount g _ _ := amountOf' (role g.2)
  payload g k d := payOf m g.1.1 (role g.2) k d
  amount_pos g _ _ _ := amountOf'_pos _

instance payOf_storable (c : Dev nD) (ro : Role) (k : ℕ) (d : Bool) : BI.Storable (upEmb : UEmb _ 𝕄) (payOf (F := F) m c ro k d) := by
  cases ro <;> cases d <;> (dsimp only [payOf]; infer_instance)
instance ringRd_payload_storable (g : GSem nD τ sig) (r : ℕ) (d : Bool) :
    BI.Storable (upEmb : UEmb _ 𝕄) ((ringRd (F := F) m).payload g r d) := by
  show BI.Storable upEmb (payOf m g.1.1 (role g.2) r d)
  infer_instance

section Sched
variable (c : Dev nD) {r k : ℕ}

theorem duties_bar (hk : k < 6) : (ringRd (F := F) m).duties (barCell c) k = Finset.univ := if_pos hk
theorem duties_snd (hr : r < 2) (hk : k < 6) : (ringRd (F := F) m).duties (sndCell r k c) 0 = {false} := by
  show dutiesOf (role (.dma (sndS r k))) 0 = _; rw [role_snd hr hk]; rfl
theorem duties_rcv (hr : r < 2) (hk : k < 6) : (ringRd (F := F) m).duties (rcvCell r k c) 0 = {false} := by
  show dutiesOf (role (.dma (rcvS r k))) 0 = _; rw [role_rcv hr hk]; rfl
theorem duties_cpy (hr : r < 2) (hk : k < 4) : (ringRd (F := F) m).duties (cpyCell r c) k = {false} := by
  show dutiesOf (role (.dma (cpyS r))) k = _; rw [role_cpy hr]; exact if_pos hk

theorem late_bar : ∀ k, 6 ≤ k → (ringRd (F := F) m).duties (barCell c) k = ∅ := fun k hk => if_neg (Nat.not_lt.mpr hk)
theorem late_snd (hr : r < 2) (hk : k < 6) : ∀ j, 1 ≤ j → (ringRd (F := F) m).duties (sndCell r k c) j = ∅ := fun j hj => by
  show dutiesOf (role (.dma (sndS r k))) j = _; rw [role_snd hr hk]; exact if_neg (by omega)
theorem late_rcv (hr : r < 2) (hk : k < 6) : ∀ j, 1 ≤ j → (ringRd (F := F) m).duties (rcvCell r k c) j = ∅ := fun j hj => by
  show dutiesOf (role (.dma (rcvS r k))) j = _; rw [role_rcv hr hk]; exact if_neg (by omega)
theorem late_cpy (hr : r < 2) : ∀ j, 4 ≤ j → (ringRd (F := F) m).duties (cpyCell r c) j = ∅ := fun j hj => by
  show dutiesOf (role (.dma (cpyS r))) j = _; rw [role_cpy hr]; exact if_neg (by omega)

theorem amount_bar (d : Bool) : (ringRd (F := F) m).amount (barCell c) k d = 1 := rfl
theorem amount_snd (hr : r < 2) (hk : k < 6) (d : Bool) : (ringRd (F := F) m).amount (sndCell r k c) 0 d = N := by
  show amountOf' (role (.dma (sndS r k))) = _; rw [role_snd hr hk]; rfl
theorem amount_rcv (hr : r < 2) (hk : k < 6) (d : Bool) : (ringRd (F := F) m).amount (rcvCell r k c) 0 d = N := by
  show amountOf' (role (.dma (rcvS r k))) = _; rw [role_rcv hr hk]; rfl
theorem amount_cpy (hr : r < 2) (d : Bool) : (ringRd (F := F) m).amount (cpyCell r c) k d = NC := by
  show amountOf' (role (.dma (cpyS r))) = _; rw [role_cpy hr]; rfl

theorem expect_bar (hk : k < 6) : (ringRd (F := F) m).expect (barCell c) k = 2 := by
  unfold Schedule.expect Schedule.amountOf
  rw [duties_bar m c hk, Finset.sum_congr rfl fun d _ => amount_bar m c d, Finset.sum_const, Finset.card_univ, Fintype.card_bool, smul_eq_mul]
theorem expect_snd (hr : r < 2) (hk : k < 6) : (ringRd (F := F) m).expect (sndCell r k c) 0 = N := by
  unfold Schedule.expect Schedule.amountOf; rw [duties_snd m c hr hk, Finset.sum_singleton, amount_snd m c hr hk]
theorem expect_rcv (hr : r < 2) (hk : k < 6) : (ringRd (F := F) m).expect (rcvCell r k c) 0 = N := by
  unfold Schedule.expect Schedule.amountOf; rw [duties_rcv m c hr hk, Finset.sum_singleton, amount_rcv m c hr hk]
theorem expect_cpy (hr : r < 2) (hk : k < 4) : (ringRd (F := F) m).expect (cpyCell r c) k = NC := by
  unfold Schedule.expect Schedule.amountOf; rw [duties_cpy m c hr hk, Finset.sum_singleton, amount_cpy m c hr]

theorem payload_bar_true : (ringRd (F := F) m).payload (barCell c) k true = iprop(∃ v, slotP (nxt c) 0 (k + 1) v) := rfl
theorem payload_bar_false : (ringRd (F := F) m).payload (barCell c) k false = iprop(∃ v, slotP (prv c) 1 (k + 1) v) := rfl
theorem payload_snd (hr : r < 2) (hk : k < 6) (d : Bool) : (ringRd (F := F) m).payload (sndCell r k c) 0 d = slotP c r k (V m r k c) := by
  show payOf m c (role (.dma (sndS r k))) 0 d = _; rw [role_snd hr hk]; cases d <;> rfl
theorem payload_rcv (hr : r < 2) (hk : k < 6) (d : Bool) : (ringRd (F := F) m).payload (rcvCell r k c) 0 d
    = iprop(slotP c r (k + 1) (V m r k (src r c)) ∗ reached ER (barCell (src r c)) (k + 1)) := by
  show payOf m c (role (.dma (rcvS r k))) 0 d = _; rw [role_rcv hr hk]; cases d <;> rfl
theorem payload_cpy (hr : r < 2) (d : Bool) : (ringRd (F := F) m).payload (cpyCell r c) k d
    = iprop(tmpP c r (tile m r k c) ∗ outP c (oblk r k c) r (flat (tile m r k c))) := by
  show payOf m c (role (.dma (cpyS r))) k d = _; rw [role_cpy hr]; cases d <;> rfl

theorem rest_bar (hk : k < 6) : bigSep ((ringRd (F := F) m).duties (barCell c) k \ ∅) (fun d => (ringRd (F := F) m).payload (barCell c) k d)
    = iprop((∃ v, slotP (prv c) 1 (k + 1) v) ∗ (∃ v, slotP (nxt c) 0 (k + 1) v)) := by
  rw [Finset.sdiff_empty, duties_bar m c hk, bigSep_univ_eq_bigSepL [false, true] (by decide) (by decide), bigSepL_cons_cons, bigSepL_singleton,
    payload_bar_false, payload_bar_true]
  rfl
theorem rest_snd (hr : r < 2) (hk : k < 6) : bigSep ((ringRd (F := F) m).duties (sndCell r k c) 0 \ ∅) (fun d => (ringRd (F := F) m).payload (sndCell r k c) 0 d)
    = slotP c r k (V m r k c) := by
  rw [Finset.sdiff_empty, duties_snd m c hr hk, bigSep_singleton, payload_snd m c hr hk]
theorem rest_rcv (hr : r < 2) (hk : k < 6) : bigSep ((ringRd (F := F) m).duties (rcvCell r k c) 0 \ ∅) (fun d => (ringRd (F := F) m).payload (rcvCell r k c) 0 d)
    = iprop(slotP c r (k + 1) (V m r k (src r c)) ∗ reached ER (barCell (src r c)) (k + 1)) := by
  rw [Finset.sdiff_empty, duties_rcv m c hr hk, bigSep_singleton, payload_rcv m c hr hk]
theorem rest_cpy (hr : r < 2) (hk : k < 4) : bigSep ((ringRd (F := F) m).duties (cpyCell r c) k \ ∅) (fun d => (ringRd (F := F) m).payload (cpyCell r c) k d)
    = iprop(tmpP c r (tile m r k c) ∗ outP c (oblk r k c) r (flat (tile m r k c))) := by
  rw [Finset.sdiff_empty, duties_cpy m c hr hk, bigSep_singleton, payload_cpy m c hr]

end Sched

/-! ## What each device owes; the levels -/

/-- What device `c` still owes from hop `k` on, nothing past hop 5; summed so that the steps of hop `k`, in program order,
    peel the last summand: the signal to the left, to the right, the send to the right, the send to the left. -/
def owedAfterR (c : Dev nD) (k : ℕ) (T : CellTallies nD τ sig ℕ) : CellTallies nD τ sig ℕ := T + tallyAt (rcvCell 1 k (prv c)) k N
def owedAfterSig (c : Dev nD) (k : ℕ) (T : CellTallies nD τ sig ℕ) : CellTallies nD τ sig ℕ := owedAfterR c k T + tallyAt (rcvCell 0 k (nxt c)) k N
def owedAfterL (c : Dev nD) (k : ℕ) (T : CellTallies nD τ sig ℕ) : CellTallies nD τ sig ℕ := owedAfterSig c k T + tallyAt (barCell (nxt c)) k 1
def owedHop (c : Dev nD) (k : ℕ) (T : CellTallies nD τ sig ℕ) : CellTallies nD τ sig ℕ := owedAfterL c k T + tallyAt (barCell (prv c)) k 1
/-- `n` hops left: hops `6 - n` to 5. -/
def owedLast (c : Dev nD) : ℕ → CellTallies nD τ sig ℕ
  | 0 => 0
  | n + 1 => owedHop c (5 - n) (owedLast c n)
def owedFrom (c : Dev nD) (k : ℕ) : CellTallies nD τ sig ℕ := owedLast c (6 - k)
theorem owedFrom_lt (c : Dev nD) {k : ℕ} (hk : k < 6) : owedFrom c k = owedHop c k (owedFrom c (k + 1)) := by
  unfold owedFrom
  obtain ⟨n, hn⟩ : ∃ n, 6 - k = n + 1 := ⟨5 - k, by omega⟩
  rw [hn, show 6 - (k + 1) = n by omega]
  show owedHop c (5 - n) _ = _
  rw [show 5 - n = k by omega]
theorem owedFrom_six (c : Dev nD) : owedFrom c 6 = 0 := rfl

def L (g : GSem nD τ sig) : Finset ℕ := if g.1.2 = .tc then Finset.range 6 else ∅
/-- The levels: staging, send and copy cells at 0; the handshake before hop `i` at `2 i + 1`, the receives of hop `i` at `2 i + 2`. -/
def lvOf : Role → ℕ → ℕ
  | .bar, i => 2 * i + 1 | .rcv _ _, i => 2 * i + 2 | _, _ => 0
def lv (g : GSem nD τ sig) (i : ℕ) : ℕ := lvOf (role g.2) i

theorem L_of_ne (g : GSem nD τ sig) (h : g.1.2 ≠ .tc) : L g = ∅ := if_neg h
theorem L_tc (c : Dev nD) (sm : SemLoc sig) : L ((c : Thread nD τ), sm) = Finset.range 6 := if_pos rfl

/-- Everything owed in `T` is owed at a tc cell, at an index below 6 and at a level of at least `l`. -/
def Above (l : ℕ) (T : CellTallies nD τ sig ℕ) : Prop := ∀ g i, 0 < T g i → i ∈ L g ∧ l ≤ lv g i

theorem above_zero (l : ℕ) : Above l 0 := fun g i h => absurd h (Nat.lt_irrefl 0)
theorem Above.mono {l l' : ℕ} {T : CellTallies nD τ sig ℕ} (h : Above l T) (hl : l' ≤ l) : Above l' T := fun g i hp => ⟨(h g i hp).1, hl.trans (h g i hp).2⟩
theorem Above.add {l : ℕ} {T : CellTallies nD τ sig ℕ} (h : Above l T) (c : Dev nD) (sm : SemLoc sig) (i n : ℕ) (hi : i < 6) (hl : l ≤ lvOf (role sm) i) :
    Above l (T + tallyAt ((c : Thread nD τ), sm) i n) := fun g j hp => by
  rw [Pi.add_apply, Finsupp.add_apply, tallyAt_apply] at hp
  by_cases hg : g = ((c : Thread nD τ), sm) ∧ j = i
  · rw [hg.1, hg.2, L_tc]; exact ⟨Finset.mem_range.mpr hi, hl⟩
  · rw [if_neg hg, Nat.add_zero] at hp; exact h g j hp

theorem above_hop {c : Dev nD} {k : ℕ} {T : CellTallies nD τ sig ℕ} (hk : k < 6) (h : Above (2 * k + 2) T) :
    Above (2 * k + 2) (owedAfterR c k T) ∧ Above (2 * k + 2) (owedAfterSig c k T) ∧ Above (2 * k + 1) (owedAfterL c k T) ∧ Above (2 * k + 1) (owedHop c k T) := by
  have h1 : Above (2 * k + 2) (owedAfterR c k T) := h.add _ _ _ _ hk (by rw [role_rcv (by decide) hk]; exact le_refl _)
  have h2 : Above (2 * k + 2) (owedAfterSig c k T) := h1.add _ _ _ _ hk (by rw [role_rcv (by decide) hk]; exact le_refl _)
  have h3 : Above (2 * k + 1) (owedAfterL c k T) := (h2.mono (by omega)).add _ _ _ _ hk (le_refl _)
  exact ⟨h1, h2, h3, h3.add _ _ _ _ hk (le_refl _)⟩
theorem above_from (c : Dev nD) : ∀ n k, k + n = 6 → Above (2 * k + 1) (owedFrom c k)
  | 0, k, h => by rw [show k = 6 by omega, owedFrom_six]; exact above_zero _
  | n + 1, k, h => by
    rw [owedFrom_lt c (by omega : k < 6)]
    exact (above_hop (by omega) ((above_from c n (k + 1) (by omega)).mono (by omega))).2.2.2

theorem above_from' (c : Dev nD) {k : ℕ} (hk : k ≤ 6) : Above (2 * k + 1) (owedFrom c k) := above_from c (6 - k) k (by omega)

omit [FloatOps F] in
/-- A wait is allowed when everything still owed lies above it. -/
theorem mayWait_of (c : Dev nD) (sm : SemLoc sig) (i l : ℕ) (hi : i < 6) (hl : lvOf (role sm) i ≤ l) {T : CellTallies nD τ sig ℕ} (hT : Above (l + 1) T) :
    (levAts L lv : sProp 𝕄) ⊢ MayWait (c : Thread nD τ) sm i T :=
  MayOwe.of_cut (L := L) (lev := lv) l (fun p hp => by rw [Finset.mem_singleton.mp hp, L_tc]; exact Finset.mem_range.mpr hi)
    (fun g u hg => (hT g u hg).1)
    (fun p hp => by rw [Finset.mem_singleton.mp hp]; exact hl)
    (fun g u hg => (hT g u hg).2)

end Cert.RingIdeal

end
-- ==== Proof.RingIdeal.Steps.lean ====
/-
# The ring's steps

One rule per kind of effect of the kernel's body, each over whole slots, scratch tiles and tiles of the result. Every rule has
the form "what the step uses, then the rest of the program after it gives its result, entail the program from the step on".
-/
module

public import proofs.«01_k».proof.Proof.RingIdeal.Proto

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-! ## What every device knows -/

/-- A cell runs the schedule, and its round 0 is reached. -/
def known (g : GSem nD τ sig) : sProp 𝕄 := iprop((∃ κ, cellInv ER (ringRd m) κ g) ∗ reached ER g 0)

/-- A device's own semaphores: per hop two send and two receive semaphores, and two copy semaphores. -/
abbrev OwnIx : Type := (Fin 6 × Fin 4) ⊕ Fin 2
def hopSem (k : ℕ) : Fin 4 → SemLoc sig
  | 0 => .dma (sndS 0 k) | 1 => .dma (sndS 1 k) | 2 => .dma (rcvS 0 k) | 3 => .dma (rcvS 1 k)
def osem : OwnIx → SemLoc sig
  | .inl (k, x) => hopSem k.val x
  | .inr r => .dma (cpyS r.val)
/-- The cells of a device: its own semaphores and its barrier semaphore. -/
abbrev CellIx : Type := OwnIx ⊕ Unit
def csem : CellIx → SemLoc sig
  | .inl i => osem i
  | .inr _ => .reg barS
def kcell (x : Dev nD × CellIx) : GSem nD τ sig := ((x.1 : Thread nD τ), csem x.2)

def records : sProp 𝕄 := bigSep Finset.univ fun x : Dev nD × CellIx => known m (kcell x)

instance known_persistent (g : GSem nD τ sig) : BI.Persistent (known m g) := by unfold known; infer_instance
instance records_persistent : BI.Persistent (records m) := by unfold records; infer_instance

theorem known_at (x : Dev nD × CellIx) : records m ⊢ known m (kcell x) := by
  unfold records
  exact bigSep_elim (Finset.mem_univ x)

theorem known_bar (c : Dev nD) : records m ⊢ known m (barCell c) := known_at m (c, .inr ())
theorem known_snd (c : Dev nD) {r k : ℕ} (hr : r < 2) (hk : k < 6) : records m ⊢ known m (sndCell r k c) :=
  match r, hr with
  | 0, _ => known_at m (c, .inl (.inl (⟨k, hk⟩, 0)))
  | 1, _ => known_at m (c, .inl (.inl (⟨k, hk⟩, 1)))
theorem known_rcv (c : Dev nD) {r k : ℕ} (hr : r < 2) (hk : k < 6) : records m ⊢ known m (rcvCell r k c) :=
  match r, hr with
  | 0, _ => known_at m (c, .inl (.inl (⟨k, hk⟩, 2)))
  | 1, _ => known_at m (c, .inl (.inl (⟨k, hk⟩, 3)))
theorem known_cpy (c : Dev nD) {r : ℕ} (hr : r < 2) : records m ⊢ known m (cpyCell r c) := known_at m (c, .inl (.inr ⟨r, hr⟩))

/-- What device `c` owes, whatever waits it has made. -/
def ow (c : Dev nD) (T : CellTallies nD τ sig ℕ) : sProp 𝕄 := iprop(∃ W, owes (c : Thread nD τ) T W)

/-- The operands' staging buffers. -/
def stgA (c : Dev nD) : sProp 𝕄 := iprop(((c : Thread nD τ).loc cc0_stg0_0) ↦{fullShare} xA m c)
def stgB (c : Dev nD) : sProp 𝕄 := iprop(((c : Thread nD τ).loc cc0_stg1_0) ↦{fullShare} xB m c)

theorem slot_of_eq (c : Dev nD) {r k : ℕ} {v w : Vec F S1x1x384x3072 .bf16} (h : v = w) : (slotP c r k v : sProp 𝕄) ⊢ slotP c r k w := by rw [h]
theorem tmp_of_eq (c : Dev nD) {r : ℕ} {v w : Vec F S1x384x3072 .f32} (h : v = w) : (tmpP c r v : sProp 𝕄) ⊢ tmpP c r w := by rw [h]

theorem slot_at (c : Dev nD) (r : ℕ) (v : Vec F S1x1x384x3072 .bf16) {a b : ℕ} (h : a = b)
    (ha : ∀ x, (![r % 2, a, 0, 0] : Fin 4 → ℕ) x + S1x1x384x3072.size x ≤ S2x2x384x3072.size x)
    (hb : ∀ x, (![r % 2, b, 0, 0] : Fin 4 → ℕ) x + S1x1x384x3072.size x ≤ S2x2x384x3072.size x) :
    (iprop(∃ f, ⌜(commM.access (Rect.unit (s := S2x2x384x3072) ![r % 2, a, 0, 0] S1x1x384x3072.size ha)).read (Elt F) f = v⌝
      ∗ ((commM.access (Rect.unit (s := S2x2x384x3072) ![r % 2, a, 0, 0] S1x1x384x3072.size ha)).loc (c : Thread nD τ)
        ↦[(commM.access (Rect.unit (s := S2x2x384x3072) ![r % 2, a, 0, 0] S1x1x384x3072.size ha)).set]{fullShare} f)) : sProp 𝕄)
    = iprop(∃ f, ⌜(commM.access (Rect.unit (s := S2x2x384x3072) ![r % 2, b, 0, 0] S1x1x384x3072.size hb)).read (Elt F) f = v⌝
      ∗ ((commM.access (Rect.unit (s := S2x2x384x3072) ![r % 2, b, 0, 0] S1x1x384x3072.size hb)).loc (c : Thread nD τ)
        ↦[(commM.access (Rect.unit (s := S2x2x384x3072) ![r % 2, b, 0, 0] S1x1x384x3072.size hb)).set]{fullShare} f)) := by
  subst h; rfl
/-- A slot is named by its hop's parity. -/
theorem slot_par (c : Dev nD) (r k : ℕ) (v : Vec F S1x1x384x3072 .bf16) : (slotP c r (k + 2) v : sProp 𝕄) = slotP c r k v := by
  exact slot_at c r v (Nat.add_mod_right k 2) _ _

/-! ## Loads and stores -/

section Mem
variable {c : Dev nD} {α : Type}

theorem ld_slot (r k : ℕ) {v : Vec F S1x1x384x3072 .bf16} {hl} {K : Vec F S1x1x384x3072 .bf16 → Prog (TpuEff nD τ sig (Elt F) Λ₀ .tc) α} {Q : α → sProp 𝕄} :
    slotP c r k v ⊢ iprop((slotP c r k v -∗ wp frame (wpE (defs₀ (F := F)) 𝒱₀ (c : Thread nD τ) none) Set.univ (K v) Q)
      -∗ wp frame (wpE (defs₀ (F := F)) 𝒱₀ (c : Thread nD τ) none) Set.univ (.op (.load commM (slotRect r k).toLoadRect hl) K) Q) := by
  unfold slotP
  iintro ⟨%f, %hf, H⟩ Hk
  subst hf
  iapply (wp_load_rect 𝒱₀ (c : Thread nD τ) none Set.univ (m := commM) (r := slotRect r k) (Finset.Subset.refl _)) $$ H
  iintro H
  iapply Hk
  iexists f
  isplitr; · ipureintro; rfl
  iexact H

theorem st_slot (r k : ℕ) {v w : Vec F S1x1x384x3072 .bf16} {hx hm} {K : PUnit → Prog (TpuEff nD τ sig (Elt F) Λ₀ .tc) α} {Q : α → sProp 𝕄} :
    slotP c r k v ⊢ iprop((slotP c r k w -∗ wp frame (wpE (defs₀ (F := F)) 𝒱₀ (c : Thread nD τ) none) Set.univ (K ⟨⟩) Q)
      -∗ wp frame (wpE (defs₀ (F := F)) 𝒱₀ (c : Thread nD τ) none) Set.univ (.op (.store commM (slotRect r k) w Finset.univ hx hm) K) Q) := by
  unfold slotP
  iintro ⟨%f, %hf, H⟩ Hk
  iapply (wp_store 𝒱₀ (c : Thread nD τ) none Set.univ (m := commM) (r := slotRect r k) (Mk := Finset.univ) (S := (commM.access (slotRect r k)).set) (by rw [View.setOn_univ])) $$ H
  iintro H
  iapply Hk
  iexists _
  isplitr; swap; · iexact H
  ipureintro; exact View.read_write_univ _ _

theorem ld_tmp (r : ℕ) {v : Vec F S1x384x3072 .f32} {hl} {K : Vec F S1x384x3072 .f32 → Prog (TpuEff nD τ sig (Elt F) Λ₀ .tc) α} {Q : α → sProp 𝕄} :
    tmpP c r v ⊢ iprop((tmpP c r v -∗ wp frame (wpE (defs₀ (F := F)) 𝒱₀ (c : Thread nD τ) none) Set.univ (K v) Q)
      -∗ wp frame (wpE (defs₀ (F := F)) 𝒱₀ (c : Thread nD τ) none) Set.univ (.op (.load tmpM (tmpRect r).toLoadRect hl) K) Q) := by
  unfold tmpP
  iintro ⟨%f, %hf, H⟩ Hk
  subst hf
  iapply (wp_load_rect 𝒱₀ (c : Thread nD τ) none Set.univ (m := tmpM) (r := tmpRect r) (Finset.Subset.refl _)) $$ H
  iintro H
  iapply Hk
  iexists f
  isplitr; · ipureintro; rfl
  iexact H

theorem st_tmp (r : ℕ) {v w : Vec F S1x384x3072 .f32} {hx hm} {K : PUnit → Prog (TpuEff nD τ sig (Elt F) Λ₀ .tc) α} {Q : α → sProp 𝕄} :
    tmpP c r v ⊢ iprop((tmpP c r w -∗ wp frame (wpE (defs₀ (F := F)) 𝒱₀ (c : Thread nD τ) none) Set.univ (K ⟨⟩) Q)
      -∗ wp frame (wpE (defs₀ (F := F)) 𝒱₀ (c : Thread nD τ) none) Set.univ (.op (.store tmpM (tmpRect r) w Finset.univ hx hm) K) Q) := by
  unfold tmpP
  iintro ⟨%f, %hf, H⟩ Hk
  iapply (wp_store 𝒱₀ (c : Thread nD τ) none Set.univ (m := tmpM) (r := tmpRect r) (Mk := Finset.univ) (S := (tmpM.access (tmpRect r)).set) (by rw [View.setOn_univ])) $$ H
  iintro H
  iapply Hk
  iexists _
  isplitr; swap; · iexact H
  ipureintro; exact View.read_write_univ _ _

theorem ld_A (b r : ℕ) {o : Fin 2 → ℕ} (ho : o = ![row b r, 0]) {hi : ∀ a, o a + S384x1536.size a ≤ S3072x1536.size a} {hl}
    {K : Vec F S384x1536 .f32 → Prog (TpuEff nD τ sig (Elt F) Λ₀ .tc) α} {Q : α → sProp 𝕄} :
    stgA m c ⊢ iprop((stgA m c -∗ wp frame (wpE (defs₀ (F := F)) 𝒱₀ (c : Thread nD τ) none) Set.univ (K (aRow m c b r)) Q)
      -∗ wp frame (wpE (defs₀ (F := F)) 𝒱₀ (c : Thread nD τ) none) Set.univ (.op (.load xaM (Rect.unit (s := S3072x1536) o S384x1536.size hi).toLoadRect hl) K) Q) := by
  subst ho
  unfold stgA
  exact wp_load 𝒱₀ (c : Thread nD τ) none Set.univ (m := xaM) (Finset.subset_univ _)

theorem hz2 : (![0, 0] : Fin 2 → ℕ) = fun _ => 0 := funext fun a => by fin_cases a <;> rfl

theorem ld_B {hi : ∀ a, (![0, 0] : Fin 2 → ℕ) a + S1536x3072.size a ≤ S1536x3072.size a} {hl}
    {K : Vec F S1536x3072 .f32 → Prog (TpuEff nD τ sig (Elt F) Λ₀ .tc) α} {Q : α → sProp 𝕄} :
    stgB m c ⊢ iprop((stgB m c -∗ wp frame (wpE (defs₀ (F := F)) 𝒱₀ (c : Thread nD τ) none) Set.univ (K (xB m c)) Q)
      -∗ wp frame (wpE (defs₀ (F := F)) 𝒱₀ (c : Thread nD τ) none) Set.univ (.op (.load xbM (Rect.unit (s := S1536x3072) ![0, 0] S1536x3072.size hi).toLoadRect hl) K) Q) := by
  unfold stgB
  iintro H Hk
  iapply (wp_load 𝒱₀ (c : Thread nD τ) none Set.univ (m := xbM) (Finset.subset_univ _)) $$ H
  have h : xbM.view.readAt (Elt F) (Rect.unit (s := S1536x3072) ![0, 0] S1536x3072.size hi).toLoadRect (xB m c) = xB m c :=
    Memref.readAt_unit_zero (Elt F) cc0_stg1_0 hz2 hi (xB m c)
  rw [h]
  iexact Hk

end Mem

/-! ## Views of a slot as the transfers see it -/

theorem slot_to_view (c : Dev nD) (r k : ℕ) (v : Vec F S1x1x384x3072 .bf16) :
    (slotP c r k v : sProp 𝕄) ⊢ iprop(∃ f, ⌜(commM.access (slotRect r k)).read (Elt F) f = v⌝
      ∗ ((slotM r k).view.loc (c : Thread nD τ) ↦[(slotM r k).view.set]{fullShare} f)) := by
  rw [show (slotM r k).view.set = (commM.access (slotRect r k)).set from View.set_reshape _ _]
  exact BI.Entails.refl _
theorem slot_of_view (c : Dev nD) (r k : ℕ) {v : Vec F S1x1x384x3072 .bf16} {f : Buf (Elt F) ((slotM r k).view.loc (c : Thread nD τ))}
    (hf : (commM.access (slotRect r k)).read (Elt F) f = v) :
    ((slotM r k).view.loc (c : Thread nD τ) ↦[(slotM r k).view.set]{fullShare} f : sProp 𝕄) ⊢ slotP c r k v := by
  rw [show (slotM r k).view.set = (commM.access (slotRect r k)).set from View.set_reshape _ _]
  unfold slotP
  iintro H
  iexists f
  isplitr; · ipureintro; exact hf
  iexact H

/-- A slot written from another holds what the other holds. -/
theorem slot_landed (r k l : ℕ) {v : Vec F S1x1x384x3072 .bf16} (fs fd : (cc0_scratch0 : Ref sig .tc).ty.Contents (Elt F))
    (hf : (commM.access (slotRect r k)).read (Elt F) fs = v) :
    (commM.access (slotRect r l)).read (Elt F) ((slotM r l).view.write (Elt F) fd ((slotM r k).view.read (Elt F) fs) Finset.univ) = v := by
  subst hf
  have h : (slotM r l).view.write (Elt F) fd ((slotM r k).view.read (Elt F) fs) Finset.univ
      = (commM.access (slotRect r l)).write (Elt F) fd
          (fun x => (slotM r k).view.read (Elt F) fs ((Shape.reshapeEquiv squeezes_S1x1x384x3072_S384x3072.numel_eq).symm x)) Finset.univ :=
    View.write_reshape_univ (v := commM.access (slotRect r l)) squeezes_S1x1x384x3072_S384x3072.numel_eq fd _
  rw [h, View.read_write_univ]
  funext x
  show (commM.access (slotRect r k)).read (Elt F) fs (Shape.reshapeEquiv _ ((Shape.reshapeEquiv _).symm x)) = _
  rw [Equiv.apply_symm_apply]

theorem tmp_to_view (c : Dev nD) (r : ℕ) (v : Vec F S1x384x3072 .f32) :
    (tmpP c r v : sProp 𝕄) ⊢ iprop(∃ f, ⌜(tmpM.access (tmpRect r)).read (Elt F) f = v⌝
      ∗ ((tmpSM r).view.loc (c : Thread nD τ) ↦[(tmpSM r).view.set]{fullShare} f)) := by
  rw [show (tmpSM r).view.set = (tmpM.access (tmpRect r)).set from View.set_reshape _ _]
  exact BI.Entails.refl _
theorem tmp_of_view (c : Dev nD) (r : ℕ) {v : Vec F S1x384x3072 .f32} {f : Buf (Elt F) ((tmpSM r).view.loc (c : Thread nD τ))}
    (hf : (tmpM.access (tmpRect r)).read (Elt F) f = v) :
    ((tmpSM r).view.loc (c : Thread nD τ) ↦[(tmpSM r).view.set]{fullShare} f : sProp 𝕄) ⊢ tmpP c r v := by
  rw [show (tmpSM r).view.set = (tmpM.access (tmpRect r)).set from View.set_reshape _ _]
  unfold tmpP
  iintro H
  iexists f
  isplitr; · ipureintro; exact hf
  iexact H

theorem tile_landed (b r : ℕ) {v : Vec F S1x384x3072 .f32} (fs : (cc0_scratch1 : Ref sig .tc).ty.Contents (Elt F)) (fd : (main_v1 : Ref sig .tc).ty.Contents (Elt F))
    (hf : (tmpM.access (tmpRect r)).read (Elt F) fs = v) :
    (outSM b r).view.read (Elt F) ((outSM b r).view.write (Elt F) fd ((tmpSM r).view.read (Elt F) fs) Finset.univ) = flat v := by
  subst hf
  rw [View.read_write_univ]
  rfl

/-! ## The handshake -/

theorem reached_zero (c : Dev nD) (sm : SemLoc sig) : known m ((c : Thread nD τ), sm) ⊢ reached ER ((c : Thread nD τ), sm) 0 := by
  unfold known; iintro ⟨-, H⟩; iexact H

/-- The handshake before hop `k`: the two landing slots go to the neighbours, the neighbours' landing slots come. -/
theorem st_bar {c : Dev nD} {α : Type} (k : ℕ) (hk : k < 6) {n1 n2 : Dev nD} (h1 : n1 = prv c) (h2 : n2 = nxt c) {T : CellTallies nD τ sig ℕ} (hT : Above (2 * k + 2) T)
    {v0 v1 : Vec F S1x1x384x3072 .bf16}
    {K : PUnit → Prog (TpuEff nD τ sig (Elt F) Λ₀ .tc) α} {Q : α → sProp 𝕄} :
    records m ⊢ iprop(levAts L lv -∗ reached ER (barCell (src 0 c)) k -∗ reached ER (barCell (src 1 c)) k
      -∗ dutyTok ER (barCell (prv c)) k true -∗ dutyTok ER (barCell (nxt c)) k false
      -∗ slotP c 0 (k + 1) v0 -∗ slotP c 1 (k + 1) v1
      -∗ cred (tallyAt (barCell c) k 2) -∗ atPos ER (barCell c) k ∅ 0 -∗ ow c (owedHop c k T)
      -∗ ((ow c (owedAfterSig c k T) ∗ atPos ER (barCell c) (k + 1) ∅ 0 ∗ reached ER (barCell c) (k + 1)
            ∗ (∃ v, slotP (dst 0 c) 0 (k + 1) v) ∗ (∃ v, slotP (dst 1 c) 1 (k + 1) v))
          -∗ wp frame (wpE (defs₀ (F := F)) 𝒱₀ (c : Thread nD τ) none) Set.univ (K ⟨⟩) Q)
      -∗ wp frame (wpE (defs₀ (F := F)) 𝒱₀ (c : Thread nD τ) none) Set.univ (.op (.semSignal (n1 : Thread nD τ) barS (1#32 : BitVec 32).toInt) fun _ => .op (.semSignal (n2 : Thread nD τ) barS (1#32 : BitVec 32).toInt) fun _ => .op (.semWait barS (2#32 : BitVec 32).toInt) K) Q) := by
  subst h1 h2
  unfold ow
  iintro #HR #Hlev #HrP #HrN HtP HtN HS0 HS1 Hc Hat ⟨%W, Ho⟩ Hk
  unfold owedHop
  ihave HbP := (known_bar m (prv c)) $$ HR
  ihave HbN := (known_bar m (nxt c)) $$ HR
  ihave HbC := (known_bar m c) $$ HR
  unfold known
  icases HbP with ⟨⟨%κP, #HIP⟩, -⟩
  icases HbN with ⟨⟨%κN, #HIN⟩, -⟩
  icases HbC with ⟨⟨%κC, #HIC⟩, -⟩
  iapply (Rounds.wp_signal 𝒱₀ ER (ringRd m) (c : Thread nD τ) none (dst := (prv c : Thread nD τ)) (κ := κP) (r := k)
      (d := true) (by rw [duties_bar m _ hk]; exact Finset.mem_univ _) ((amount_bar m (prv c) true).trans (by decide)) k (owedAfterL c k T) rfl)
    $$ [Ho HtP HS0]
  · isplitr; · iexact HIP
    isplitl [Ho]; · iexact Ho
    isplitl [HtP]; · iexact HtP
    isplitl [HS0]; · rw [payload_bar_true, nxt_prv]; iexists v0; iexact HS0
    iexact HrP
  iintro Ho
  unfold owedAfterL
  iapply (Rounds.wp_signal 𝒱₀ ER (ringRd m) (c : Thread nD τ) none (dst := (nxt c : Thread nD τ)) (κ := κN) (r := k)
      (d := false) (by rw [duties_bar m _ hk]; exact Finset.mem_univ _) ((amount_bar m (nxt c) false).trans (by decide)) k (owedAfterSig c k T) rfl)
    $$ [Ho HtN HS1]
  · isplitr; · iexact HIN
    isplitl [Ho]; · iexact Ho
    isplitl [HtN]; · iexact HtN
    isplitl [HS1]; · rw [payload_bar_false, prv_nxt]; iexists v1; iexact HS1
    iexact HrN
  iintro Ho
  iapply (Rounds.wp_wait_rest_token 𝒱₀ ER (ringRd m) (c : Thread nD τ) none (κ := κC)
      (wpE_semWait_eq 𝒱₀ (c : Thread nD τ) none Set.univ) (Set.mem_univ _) k (O := owedAfterSig c k T) (W := W) (R := k) (m := 0) (T := ∅)
      (by rw [expect_bar m c hk]; decide)) $$ [Hc Ho Hat]
  · isplitr; · iexact HIC
    isplitl [Hc]; · iexact Hc
    isplitl [Ho]; · iexact Ho
    isplitr; · iapply (mayWait_of c (.reg barS) k (2 * k + 1) hk (le_refl _) (above_hop hk hT).2.1); iexact Hlev
    iexact Hat
  iintro ⟨Ho, Hat, #Hr, Hpay⟩
  ihave Hp := (Entails.of_eq (rest_bar m c hk)) $$ Hpay
  icases Hp with ⟨HP, HN⟩
  iapply Hk
  isplitl [Ho]; · iexists _; iexact Ho
  isplitl [Hat]; · iexact Hat
  isplitr; · iexact Hr
  isplitl [HN]; · iexact HN
  iexact HP

/-! ## The sends -/

/-- The send of hop `k` in direction `r`. -/
theorem st_send {c : Dev nD} {α : Type} (r k : ℕ) (hr : r < 2) (hk : k < 6) {n : Dev nD} (hn : n = dst r c) {T T' : CellTallies nD τ sig ℕ}
    (hT : T' = T + tallyAt (rcvCell r k (dst r c)) k N) {v : Vec F S1x1x384x3072 .bf16}
    {hsc : (slotM r (k + 1) : Memref sig (Dev.tc n : Thread nD τ).2.kind .vmem S384x3072 .bf16).view.ref.isScScratch = false}
    {hsrc : (slotM r k).view.WordExact} {hdst : (slotM r (k + 1)).view.WordExact}
    {hsem : DmaTarget.Typed .vmem (.dma (rcvS r k)) (.remote (Dev.tc n : Thread nD τ) (slotM r (k + 1)) (.dma (sndS r k)) hsc)}
    {K : PUnit → Prog (TpuEff nD τ sig (Elt F) Λ₀ .tc) α} {Q : α → sProp 𝕄} :
    records m ⊢ iprop(reached ER (barCell c) (k + 1)
      -∗ slotP c r k (V m r k c) -∗ slotP (dst r c) r (k + 1) v
      -∗ dutyTok ER (sndCell r k c) 0 false -∗ dutyTok ER (rcvCell r k (dst r c)) 0 false -∗ ow c T'
      -∗ ((cred (tallyAt (sndCell r k c) 0 N) ∗ ow c T) -∗ wp frame (wpE (defs₀ (F := F)) 𝒱₀ (c : Thread nD τ) none) Set.univ (K ⟨⟩) Q)
      -∗ wp frame (wpE (defs₀ (F := F)) 𝒱₀ (c : Thread nD τ) none) Set.univ (.op (.enqueueDma (slotM r k) (.remote (Dev.tc n : Thread nD τ) (slotM r (k + 1)) (.dma (sndS r k)) hsc) (.dma (rcvS r k)) hsrc hdst hsem) K) Q) := by
  subst hn
  unfold ow
  iintro #HR #Hr HS HD HtS HtV ⟨%W, Ho⟩ Hk
  ihave HbS := (known_snd m c hr hk) $$ HR
  ihave HbV := (known_rcv m (dst r c) hr hk) $$ HR
  unfold known
  icases HbS with ⟨⟨%κS, #HIS⟩, #HrS⟩
  icases HbV with ⟨⟨%κV, #HIV⟩, #HrV⟩
  ihave HS := (slot_to_view c r k _) $$ HS
  ihave HD := (slot_to_view (dst r c) r (k + 1) _) $$ HD
  icases HS with ⟨%fs, %hfs, HS⟩
  icases HD with ⟨%fd, %hfd, HD⟩
  iapply (Rounds.wp_send_pointsTo_with 𝒱₀ ER (ringRd m) (c : Thread nD τ) none (κ₁ := κS) (κ₂ := κV)
      (r₁ := 0) (r₂ := 0) (d₁ := false) (d₂ := false) (fd := fd) (fs := fs) (F := reached ER (barCell c) (k + 1))
      (by rw [duties_snd m c hr hk]; exact Finset.mem_singleton_self _) (by rw [duties_rcv m _ hr hk]; exact Finset.mem_singleton_self _)
      k 0 N (credit_slot r (k + 1) _) (amount_snd m c hr hk false) (amount_rcv m (dst r c) hr hk false) T hT (W := W)
      (by rw [payload_snd m c hr hk]; exact slot_of_view c r k hfs)
      (by
        rw [payload_rcv m _ hr hk, src_dst]
        exact sep_mono_left (slot_of_view (dst r c) r (k + 1) (slot_landed r k (k + 1) fs fd hfs))))
    $$ [HS HD Ho HtS HtV]
  · isplitr; · iexact HIS
    isplitr; · iexact HIV
    isplitl [HS]; · iexact HS
    isplitl [HD]
    · isplitl [HD]; · iexact HD
      iexact Hr
    isplitl [Ho]; · iexact Ho
    isplitl [HtS]; · iexact HtS
    isplitr; · iexact HrS
    isplitl [HtV]; · iexact HtV
    iexact HrV
  iintro ⟨Hc, Ho⟩
  iapply Hk
  isplitl [Hc]; · iexact Hc
  iexists W; iexact Ho

/-! ## The waits -/

/-- The wait for the send of hop `k` in direction `r`: the source slot back, the cell closed. -/
theorem st_wsnd {c : Dev nD} {α : Type} (r k : ℕ) (hr : r < 2) (hk : k < 6) {T : CellTallies nD τ sig ℕ} (hT : Above 1 T)
    {mA mB : Memref sig .tc .vmem S384x3072 .bf16} (hmB : mB.view.dmaCredit = N) {hA hB}
    {K : PUnit → Prog (TpuEff nD τ sig (Elt F) Λ₀ .tc) α} {Q : α → sProp 𝕄} :
    records m ⊢ iprop(levAts L lv -∗ cred (tallyAt (sndCell r k c) 0 N) -∗ atPos ER (sndCell r k c) 0 ∅ 0 -∗ ow c T
      -∗ ((slotP c r (k + 2) (V m r k c) ∗ semVal (sndCell r k c) 0 ∗ ow c T) -∗ wp frame (wpE (defs₀ (F := F)) 𝒱₀ (c : Thread nD τ) none) Set.univ (K ⟨⟩) Q)
      -∗ wp frame (wpE (defs₀ (F := F)) 𝒱₀ (c : Thread nD τ) none) Set.univ (.op (.waitDma2 (sndS r k) mA mB hA hB) K) Q) := by
  unfold ow
  iintro #HR #Hlev Hc Hat ⟨%W, Ho⟩ Hk
  ihave HbS := (known_snd m c hr hk) $$ HR
  unfold known
  icases HbS with ⟨⟨%κS, #HIS⟩, -⟩
  iapply (Rounds.wp_wait_rest_token 𝒱₀ ER (ringRd m) (c : Thread nD τ) none (κ := κS)
      (wpE_waitDma2_eq 𝒱₀ (c : Thread nD τ) none Set.univ) (Set.mem_univ _) 0 (O := T) (W := W) (R := 0) (m := 0) (T := ∅)
      (by rw [Nat.zero_add, expect_snd m c hr hk]; exact hmB)) $$ [Hc Ho Hat]
  · isplitr; · iexact HIS
    isplitl [Hc]; · rw [hmB]; iexact Hc
    isplitl [Ho]; · iexact Ho
    isplitr
    · iapply (mayWait_of c (.dma (sndS r k)) 0 0 (by decide) (by rw [role_snd hr hk]; exact le_refl _) hT); iexact Hlev
    iexact Hat
  iintro ⟨Ho, Hat, -, Hpay⟩
  ihave HS := (Entails.of_eq (rest_snd m c hr hk)) $$ Hpay
  imod (Rounds.cell_close ER (ringRd m) (Set.mem_univ κS) (fun h => h) (R := 0 + 1) (late_snd m c hr hk)) $$ [Hat] with Hz
  · isplitr; · iexact HIS
    iexact Hat
  iapply Hk
  isplitl [HS]
  · rw [show (slotP c r (k + 2) (V m r k c) : sProp 𝕄) = slotP c r k (V m r k c) from slot_par c r k _]
    iexact HS
  isplitl [Hz]; · iexact Hz
  iexists _; iexact Ho

/-- The wait for the receive of hop `k` in direction `r`: the landing slot with the sender's contents, the cell closed. -/
theorem st_wrcv {c : Dev nD} {α : Type} (r k : ℕ) (hr : r < 2) (hk : k < 6) {T : CellTallies nD τ sig ℕ} (hT : Above (2 * k + 3) T)
    {mA mB : Memref sig .tc .vmem S384x3072 .bf16} (hmB : mB.view.dmaCredit = N) {hA hB}
    {K : PUnit → Prog (TpuEff nD τ sig (Elt F) Λ₀ .tc) α} {Q : α → sProp 𝕄} :
    records m ⊢ iprop(levAts L lv -∗ cred (tallyAt (rcvCell r k c) k N) -∗ atPos ER (rcvCell r k c) 0 ∅ 0 -∗ ow c T
      -∗ ((slotP c r (k + 1) (V m r k (src r c)) ∗ reached ER (barCell (src r c)) (k + 1) ∗ semVal (rcvCell r k c) 0 ∗ ow c T) -∗ wp frame (wpE (defs₀ (F := F)) 𝒱₀ (c : Thread nD τ) none) Set.univ (K ⟨⟩) Q)
      -∗ wp frame (wpE (defs₀ (F := F)) 𝒱₀ (c : Thread nD τ) none) Set.univ (.op (.waitDma2 (rcvS r k) mA mB hA hB) K) Q) := by
  unfold ow
  iintro #HR #Hlev Hc Hat ⟨%W, Ho⟩ Hk
  ihave HbS := (known_rcv m c hr hk) $$ HR
  unfold known
  icases HbS with ⟨⟨%κS, #HIS⟩, -⟩
  iapply (Rounds.wp_wait_rest_token 𝒱₀ ER (ringRd m) (c : Thread nD τ) none (κ := κS)
      (wpE_waitDma2_eq 𝒱₀ (c : Thread nD τ) none Set.univ) (Set.mem_univ _) k (O := T) (W := W) (R := 0) (m := 0) (T := ∅)
      (by rw [Nat.zero_add, expect_rcv m c hr hk]; exact hmB)) $$ [Hc Ho Hat]
  · isplitr; · iexact HIS
    isplitl [Hc]; · rw [hmB]; iexact Hc
    isplitl [Ho]; · iexact Ho
    isplitr
    · iapply (mayWait_of c (.dma (rcvS r k)) k (2 * k + 2) hk (by rw [role_rcv hr hk]; exact le_refl _) hT); iexact Hlev
    iexact Hat
  iintro ⟨Ho, Hat, -, Hpay⟩
  ihave HS := (Entails.of_eq (rest_rcv m c hr hk)) $$ Hpay
  icases HS with ⟨HS, #Hr⟩
  imod (Rounds.cell_close ER (ringRd m) (Set.mem_univ κS) (fun h => h) (R := 0 + 1) (late_rcv m c hr hk)) $$ [Hat] with Hz
  · isplitr; · iexact HIS
    iexact Hat
  iapply Hk
  isplitl [HS]; · iexact HS
  isplitr; · iexact Hr
  isplitl [Hz]; · iexact Hz
  iexists _; iexact Ho

/-! ## The copies into the result -/

theorem st_cpy {c : Dev nD} {α : Type} (r j : ℕ) (hr : r < 2) (hj : j < 4) {o : Fin 2 → ℕ} (ho : o = ![row (oblk r j c) r, 0])
    {hi : ∀ a, o a + S384x3072.size a ≤ S3072x3072.size a} {w : Vec F S384x3072 .f32}
    {hsrc hdst hsem}
    {K : PUnit → Prog (TpuEff nD τ sig (Elt F) Λ₀ .tc) α} {Q : α → sProp 𝕄} :
    records m ⊢ iprop(reached ER (cpyCell r c) j
      -∗ tmpP c r (tile m r j c) -∗ outP c (oblk r j c) r w -∗ dutyTok ER (cpyCell r c) j false
      -∗ (cred (tallyAt (cpyCell r c) 0 NC) -∗ wp frame (wpE (defs₀ (F := F)) 𝒱₀ (c : Thread nD τ) none) Set.univ (K ⟨⟩) Q)
      -∗ wp frame (wpE (defs₀ (F := F)) 𝒱₀ (c : Thread nD τ) none) Set.univ (.op (.enqueueDma (tmpSM r) (.here (outM.slice (Rect.unit (s := S3072x3072) o S384x3072.size hi) (fun _ => rfl))) (.dma (cpyS r)) hsrc hdst hsem) K) Q) := by
  subst ho
  iintro #HR #Hr HS HD Ht Hk
  ihave HbS := (known_cpy m c hr) $$ HR
  unfold known
  icases HbS with ⟨⟨%κS, #HIS⟩, -⟩
  ihave HS := (tmp_to_view c r _) $$ HS
  unfold outP
  icases HS with ⟨%fs, %hfs, HS⟩
  icases HD with ⟨%fd, %hfd, HD⟩
  iapply (Rounds.wp_copy_pointsTo 𝒱₀ ER (ringRd m) (c : Thread nD τ) none (κ := κS)
      (r := j) (d := false) (fd := fd) (fs := fs)
      (by rw [duties_cpy m c hr hj]; exact Finset.mem_singleton_self _)
      0 NC (credit_out (oblk r j c) r _) (amount_cpy m c hr false)
      (by
        rw [payload_cpy m c hr]
        iintro ⟨HD, HS⟩
        isplitl [HS]; · iapply (tmp_of_view c r hfs); iexact HS
        unfold outP
        iexists _
        isplitr; swap; · iexact HD
        ipureintro; exact tile_landed (oblk r j c) r fs fd hfs))
    $$ [HS HD Ht]
  · isplitr; · iexact HIS
    isplitl [HS]; · iexact HS
    isplitl [HD]; · iexact HD
    isplitl [Ht]; · iexact Ht
    iexact Hr
  iexact Hk

theorem st_wcpy {c : Dev nD} {α : Type} (r j : ℕ) (hr : r < 2) (hj : j < 4) {T : CellTallies nD τ sig ℕ} (hT : Above 1 T)
    {mA : Memref sig .tc .vmem S384x3072 .f32} {mB : Memref sig .tc .hbm S384x3072 .f32} (hmB : mB.view.dmaCredit = NC) {hA hB}
    {K : PUnit → Prog (TpuEff nD τ sig (Elt F) Λ₀ .tc) α} {Q : α → sProp 𝕄} :
    records m ⊢ iprop(levAts L lv -∗ cred (tallyAt (cpyCell r c) 0 NC) -∗ atPos ER (cpyCell r c) j ∅ 0 -∗ ow c T
      -∗ ((tmpP c r (tile m r j c) ∗ outP c (oblk r j c) r (flat (tile m r j c)) ∗ atPos ER (cpyCell r c) (j + 1) ∅ 0
            ∗ reached ER (cpyCell r c) (j + 1) ∗ ow c T) -∗ wp frame (wpE (defs₀ (F := F)) 𝒱₀ (c : Thread nD τ) none) Set.univ (K ⟨⟩) Q)
      -∗ wp frame (wpE (defs₀ (F := F)) 𝒱₀ (c : Thread nD τ) none) Set.univ (.op (.waitDma2 (cpyS r) mA mB hA hB) K) Q) := by
  unfold ow
  iintro #HR #Hlev Hc Hat ⟨%W, Ho⟩ Hk
  ihave HbS := (known_cpy m c hr) $$ HR
  unfold known
  icases HbS with ⟨⟨%κS, #HIS⟩, -⟩
  iapply (Rounds.wp_wait_rest_token 𝒱₀ ER (ringRd m) (c : Thread nD τ) none (κ := κS)
      (wpE_waitDma2_eq 𝒱₀ (c : Thread nD τ) none Set.univ) (Set.mem_univ _) 0 (O := T) (W := W) (R := j) (m := 0) (T := ∅)
      (by rw [Nat.zero_add, expect_cpy m c hr hj]; exact hmB)) $$ [Hc Ho Hat]
  · isplitr; · iexact HIS
    isplitl [Hc]; · rw [hmB]; iexact Hc
    isplitl [Ho]; · iexact Ho
    isplitr
    · iapply (mayWait_of c (.dma (cpyS r)) 0 0 (by decide) (by rw [role_cpy hr]; exact le_refl _) hT); iexact Hlev
    iexact Hat
  iintro ⟨Ho, Hat, #Hr, Hpay⟩
  ihave HS := (Entails.of_eq (rest_cpy m c hr hj)) $$ Hpay
  icases HS with ⟨HS, HD⟩
  iapply Hk
  isplitl [HS]; · iexact HS
  isplitl [HD]; · iexact HD
  isplitl [Hat]; · iexact Hat
  isplitr; · iexact Hr
  iexists _; iexact Ho

theorem dma_slot (r k : ℕ) : (slotM r k).view.dmaCredit = N := credit_slot r k (sndS 0 0)
theorem dma_out (o : Fin 2 → ℕ) (hi : ∀ a, o a + S384x3072.size a ≤ S3072x3072.size a) :
    (outM.slice (Rect.unit (s := S3072x3072) o S384x3072.size hi) (fun _ => rfl)).view.dmaCredit = NC :=
  (rfl : _ = (outSM 0 0).view.dmaCredit).trans (credit_out 0 0 (sndS 0 0))

theorem ow_from (c : Dev nD) {k : ℕ} (hk : k < 6) : (ow c (owedFrom c k) : sProp 𝕄) ⊢ ow c (owedHop c k (owedFrom c (k + 1))) := by
  rw [← owedFrom_lt c hk]

end Cert.RingIdeal

end
-- ==== Proof.RingIdeal.PartsA.lean ====
/-
# The body, part by part (the first hop and the start of the second)

Each part of the body, from what it uses to what it leaves; the words the parts pass on are arbitrary.
-/
module

public import proofs.«01_k».proof.Proof.RingIdeal.Steps

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

set_option maxHeartbeats 1000000

theorem part1 (c : Dev nD)  {Kt : (Σ' (d0 : Dev nD) (v2 : BitVec 32) (v13 : BitVec 32) (v24 : BitVec 32) (v25 : Sems sig S_), FVec F S384x3072 .bf16) → sProp 𝕄} :
    iprop(records m ∗ levAts L lv ∗ stgA m c ∗ stgB m c)
      ⊢ iprop((∀ w2 w13 w24, (stgA m c ∗ stgB m c) -∗ Kt ⟨c, w2, w13, w24, SemArray.scalar (sig.barrier 0 rfl), k0_pay1 (aRow m c c.val 0) (xB m c)⟩)
        -∗ wp frame (wpE (defs₀ (F := F)) 𝒱₀ (c : Thread nD τ) none) Set.univ (k0_part1 (F := F) xaM (Memref.isWhole_whole _) xbM (Memref.isWhole_whole _) outM (Memref.isWhole_whole _) commM (Memref.isWhole_whole _) tmpM (Memref.isWhole_whole _) cc0_scratch2 cc0_scratch3 cc0_scratch4 ) Kt) := by
  rw [k0_part1_eq_skeleton]; unfold k0_part1_skel
  simp only [semSignalWord, semWaitWord, Prog.lift, Prog.bind_op, Prog.bind_ret, Prog.pure_eq_ret, wp_deviceId]
  iintro ⟨#HR, #Hlev, xA, xB⟩ Hk
  iapply (ld_A m c.val 0 (off1_0 c)) $$ xA; iintro xA
  iapply (ld_B m) $$ xB; iintro xB
  rw [wp_ret]; imodintro
  iapply Hk
  isplitl [xA]; · iexact xA
  iexact xB

theorem part2 (c : Dev nD) (v2 : BitVec 32) (v13 : BitVec 32) (v24 : BitVec 32) {Kt : (Σ' (v56 : BitVec 32) (v57 : BitVec 32), BitVec 1) → sProp 𝕄} :
    iprop(records m ∗ levAts L lv ∗ (∃ v, slotP c 0 0 v) ∗ stgA m c ∗ stgB m c ∗ (∃ v, slotP c 1 0 v) ∗ reached ER (barCell (src 0 c)) 0 ∗ reached ER (barCell (src 1 c)) 0 ∗ dutyTok ER (barCell (prv c)) 0 true ∗ dutyTok ER (barCell (nxt c)) 0 false ∗ (∃ v, slotP c 0 1 v) ∗ (∃ v, slotP c 1 1 v) ∗ cred (tallyAt (barCell c) 0 2) ∗ atPos ER (barCell c) 0 ∅ 0 ∗ ow c (owedFrom c 0))
      ⊢ iprop((∀ r, (slotP c 0 0 (V m 0 0 c) ∗ stgA m c ∗ stgB m c ∗ slotP c 1 0 (V m 1 0 c) ∗ atPos ER (barCell c) 1 ∅ 0 ∗ ow c (owedAfterSig c 0 (owedFrom c 1)) ∗ reached ER (barCell c) 1 ∗ (∃ v, slotP (dst 0 c) 0 1 v) ∗ (∃ v, slotP (dst 1 c) 1 1 v)) -∗ Kt r)
        -∗ wp frame (wpE (defs₀ (F := F)) 𝒱₀ (c : Thread nD τ) none) Set.univ (k0_part2 (F := F) xaM (Memref.isWhole_whole _) xbM (Memref.isWhole_whole _) outM (Memref.isWhole_whole _) commM (Memref.isWhole_whole _) tmpM (Memref.isWhole_whole _) cc0_scratch2 cc0_scratch3 cc0_scratch4 c v2 v13 v24 (SemArray.scalar (sig.barrier 0 rfl)) (k0_pay1 (aRow m c c.val 0) (xB m c))) Kt) := by
  rw [k0_part2_eq_skeleton]; unfold k0_part2_skel
  simp only [semSignalWord, semWaitWord, Prog.lift, Prog.bind_op, Prog.bind_ret, Prog.pure_eq_ret, wp_deviceId]
  iintro ⟨#HR, #Hlev, ⟨%vS00, S00⟩, xA, xB, ⟨%vS10, S10⟩, #RP, #RN, tp0, tn0, ⟨%vS01, S01⟩, ⟨%vS11, S11⟩, cb0, ab, Ho⟩ Hk
  iapply (ld_slot 0 0) $$ S00; iintro S00
  iapply (st_slot 0 0) $$ S00; iintro S00
  ihave S00 := (slot_of_eq c (show k0_pay2 (k0_pay1 (aRow m c c.val 0) (xB m c)) = V m 0 0 c from (V_zero m 0 c).symm)) $$ S00
  iapply (ld_A m c.val 1 (off1_1 c)) $$ xA; iintro xA
  iapply (ld_B m) $$ xB; iintro xB
  iapply (ld_slot 1 0) $$ S10; iintro S10
  iapply (st_slot 1 0) $$ S10; iintro S10
  ihave S10 := (slot_of_eq c (show k0_pay3 (aRow m c c.val 1) (xB m c) = V m 1 0 c from (V_zero m 1 c).symm)) $$ S10
  ihave Ho := (ow_from c (k := 0) (by decide)) $$ Ho
  iapply (st_bar m 0 (by decide) (dev1_eq c) (dev2_eq c) (T := owedFrom c 1) ((above_from' c (by decide)).mono (by decide))) $$ HR Hlev RP RN tp0 tn0 S01 S11 cb0 ab Ho
  iintro ⟨Ho, ab, #RB, ⟨%vn, SN⟩, ⟨%vp, SP⟩⟩
  rw [wp_ret]; imodintro
  iapply Hk
  isplitl [S00]; · iexact S00
  isplitl [xA]; · iexact xA
  isplitl [xB]; · iexact xB
  isplitl [S10]; · iexact S10
  isplitl [ab]; · iexact ab
  isplitl [Ho]; · iexact Ho
  isplitr; · iexact RB
  isplitl [SN]; · iexists _; iexact SN
  iexists _; iexact SP

theorem part3 (c : Dev nD) (v13 : BitVec 32) (v24 : BitVec 32) (v56 : BitVec 32) (v57 : BitVec 32) (v62 : BitVec 1) {Kt : (PUnit) → sProp 𝕄} :
    iprop(records m ∗ levAts L lv ∗ stgA m c ∗ stgB m c ∗ (∃ v, tmpP c 0 v) ∗ reached ER (barCell c) 1 ∗ slotP c 0 0 (V m 0 0 c) ∗ (∃ v, slotP (dst 0 c) 0 1 v) ∗ dutyTok ER (sndCell 0 0 c) 0 false ∗ dutyTok ER (rcvCell 0 0 (dst 0 c)) 0 false ∗ ow c (owedAfterSig c 0 (owedFrom c 1)))
      ⊢ iprop((∀ r, (stgA m c ∗ stgB m c ∗ tmpP c 0 (part m c (ablk 0 0 c) 0) ∗ ow c (owedAfterR c 0 (owedFrom c 1)) ∗ cred (tallyAt (sndCell 0 0 c) 0 N)) -∗ Kt r)
        -∗ wp frame (wpE (defs₀ (F := F)) 𝒱₀ (c : Thread nD τ) none) Set.univ (k0_part3 (F := F) xaM (Memref.isWhole_whole _) xbM (Memref.isWhole_whole _) outM (Memref.isWhole_whole _) commM (Memref.isWhole_whole _) tmpM (Memref.isWhole_whole _) cc0_scratch2 cc0_scratch3 cc0_scratch4 c v13 v24 v56 v57 v62) Kt) := by
  rw [k0_part3_eq_skeleton]; unfold k0_part3_skel
  simp only [semSignalWord, semWaitWord, Prog.lift, Prog.bind_op, Prog.bind_ret, Prog.pure_eq_ret, wp_deviceId]
  iintro ⟨#HR, #Hlev, xA, xB, ⟨%vT0, T0⟩, #RB, S00, ⟨%vSN, SN⟩, ts00, tv00, Ho⟩ Hk
  iapply (ld_A m (ablk 0 0 c) 0 (off2_0 c)) $$ xA; iintro xA
  iapply (ld_B m) $$ xB; iintro xB
  iapply (ld_tmp 0) $$ T0; iintro T0
  iapply (st_tmp 0) $$ T0; iintro T0
  ihave T0 := (tmp_of_eq c (show k0_pay4 (aRow m c (ablk 0 0 c) 0) (xB m c) = part m c (ablk 0 0 c) 0 from rfl)) $$ T0
  iapply (st_send m 0 0 (by decide) (by decide) (dev3_eq c) (T := owedAfterR c 0 (owedFrom c 1)) (T' := owedAfterSig c 0 (owedFrom c 1)) rfl) $$ HR RB S00 SN ts00 tv00 Ho
  iintro ⟨cs00, Ho⟩
  rw [wp_ret]; imodintro
  iapply Hk
  isplitl [xA]; · iexact xA
  isplitl [xB]; · iexact xB
  isplitl [T0]; · iexact T0
  isplitl [Ho]; · iexact Ho
  iexact cs00

theorem part4 (c : Dev nD) (v2 : BitVec 32) {Kt : (PUnit) → sProp 𝕄} :
    iprop(records m ∗ levAts L lv ∗ reached ER (barCell c) 1 ∗ slotP c 1 0 (V m 1 0 c) ∗ (∃ v, slotP (dst 1 c) 1 1 v) ∗ dutyTok ER (sndCell 1 0 c) 0 false ∗ dutyTok ER (rcvCell 1 0 (dst 1 c)) 0 false ∗ ow c (owedAfterR c 0 (owedFrom c 1)) ∗ stgA m c ∗ stgB m c ∗ (∃ v, tmpP c 1 v))
      ⊢ iprop((∀ r, (ow c (owedFrom c 1) ∗ stgA m c ∗ stgB m c ∗ tmpP c 1 (part m c (ablk 1 0 c) 1) ∗ cred (tallyAt (sndCell 1 0 c) 0 N)) -∗ Kt r)
        -∗ wp frame (wpE (defs₀ (F := F)) 𝒱₀ (c : Thread nD τ) none) Set.univ (k0_part4 (F := F) xaM (Memref.isWhole_whole _) xbM (Memref.isWhole_whole _) outM (Memref.isWhole_whole _) commM (Memref.isWhole_whole _) tmpM (Memref.isWhole_whole _) cc0_scratch2 cc0_scratch3 cc0_scratch4 c v2) Kt) := by
  rw [k0_part4_eq_skeleton]; unfold k0_part4_skel
  simp only [semSignalWord, semWaitWord, Prog.lift, Prog.bind_op, Prog.bind_ret, Prog.pure_eq_ret, wp_deviceId]
  iintro ⟨#HR, #Hlev, #RB, S10, ⟨%vSP, SP⟩, ts10, tv10, Ho, xA, xB, ⟨%vT1, T1⟩⟩ Hk
  iapply (st_send m 1 0 (by decide) (by decide) (dev4_eq c) (T := owedFrom c 1) (T' := owedAfterR c 0 (owedFrom c 1)) rfl) $$ HR RB S10 SP ts10 tv10 Ho
  iintro ⟨cs10, Ho⟩
  iapply (ld_A m (ablk 1 0 c) 1 (off3_0 c)) $$ xA; iintro xA
  iapply (ld_B m) $$ xB; iintro xB
  iapply (ld_tmp 1) $$ T1; iintro T1
  iapply (st_tmp 1) $$ T1; iintro T1
  ihave T1 := (tmp_of_eq c (show k0_pay5 (aRow m c (ablk 1 0 c) 1) (xB m c) = part m c (ablk 1 0 c) 1 from rfl)) $$ T1
  rw [wp_ret]; imodintro
  iapply Hk
  isplitl [Ho]; · iexact Ho
  isplitl [xA]; · iexact xA
  isplitl [xB]; · iexact xB
  isplitl [T1]; · iexact T1
  iexact cs10

theorem part5 (c : Dev nD) (v24 : BitVec 32) {Kt : (BitVec 32) → sProp 𝕄} :
    iprop(records m ∗ levAts L lv ∗ cred (tallyAt (sndCell 0 0 c) 0 N) ∗ atPos ER (sndCell 0 0 c) 0 ∅ 0 ∗ ow c (owedFrom c 1) ∗ cred (tallyAt (rcvCell 0 0 c) 0 N) ∗ atPos ER (rcvCell 0 0 c) 0 ∅ 0 ∗ tmpP c 0 (part m c (ablk 0 0 c) 0))
      ⊢ iprop((∀ r, (ow c (owedFrom c 1) ∗ tmpP c 0 (part m c (ablk 0 0 c) 0) ∗ reached ER (barCell (src 0 c)) 1 ∗ slotP c 0 2 (V m 0 0 c) ∗ slotP c 0 1 (V m 0 1 c) ∗ semVal (sndCell 0 0 c) 0 ∗ semVal (rcvCell 0 0 c) 0) -∗ Kt r)
        -∗ wp frame (wpE (defs₀ (F := F)) 𝒱₀ (c : Thread nD τ) none) Set.univ (k0_part5 (F := F) xaM (Memref.isWhole_whole _) xbM (Memref.isWhole_whole _) outM (Memref.isWhole_whole _) commM (Memref.isWhole_whole _) tmpM (Memref.isWhole_whole _) cc0_scratch2 cc0_scratch3 cc0_scratch4 v24) Kt) := by
  rw [k0_part5_eq_skeleton]; unfold k0_part5_skel
  simp only [semSignalWord, semWaitWord, Prog.lift, Prog.bind_op, Prog.bind_ret, Prog.pure_eq_ret, wp_deviceId]
  iintro ⟨#HR, #Hlev, cs00, as00, Ho, cv00, av00, T0⟩ Hk
  iapply (st_wsnd m 0 0 (by decide) (by decide) ((above_from' c (by decide)).mono (by decide)) (dma_slot 0 0)) $$ HR Hlev cs00 as00 Ho
  iintro ⟨S00, zs00, Ho⟩
  iapply (st_wrcv m 0 0 (by decide) (by decide) ((above_from' c (by decide)).mono (by decide)) (dma_slot 0 1)) $$ HR Hlev cv00 av00 Ho
  iintro ⟨S01, #RP, zv00, Ho⟩
  iapply (ld_slot 0 1) $$ S01; iintro S01
  iapply (ld_tmp 0) $$ T0; iintro T0
  iapply (ld_slot 0 1) $$ S01; iintro S01
  iapply (st_slot 0 1) $$ S01; iintro S01
  ihave S01 := (slot_of_eq c (show k0_pay6 (V m 0 0 (src 0 c)) (part m c (ablk 0 0 c) 0) = V m 0 1 c from (V_add m (r := 0) (k := 0) (by decide) c).symm)) $$ S01
  rw [wp_ret]; imodintro
  iapply Hk
  isplitl [Ho]; · iexact Ho
  isplitl [T0]; · iexact T0
  isplitr; · iexact RP
  isplitl [S00]; · iexact S00
  isplitl [S01]; · iexact S01
  isplitl [zs00]; · iexact zs00
  iexact zv00

theorem part6 (c : Dev nD) (v2 : BitVec 32) (c2_i32_133 : BitVec 32) {Kt : (PUnit) → sProp 𝕄} :
    iprop(records m ∗ levAts L lv ∗ stgA m c ∗ stgB m c ∗ tmpP c 0 (part m c (ablk 0 0 c) 0) ∗ cred (tallyAt (sndCell 1 0 c) 0 N) ∗ atPos ER (sndCell 1 0 c) 0 ∅ 0 ∗ ow c (owedFrom c 1))
      ⊢ iprop((∀ r, (stgA m c ∗ stgB m c ∗ tmpP c 0 (part m c (ablk 0 1 c) 0) ∗ ow c (owedFrom c 1) ∗ slotP c 1 2 (V m 1 0 c) ∗ semVal (sndCell 1 0 c) 0) -∗ Kt r)
        -∗ wp frame (wpE (defs₀ (F := F)) 𝒱₀ (c : Thread nD τ) none) Set.univ (k0_part6 (F := F) xaM (Memref.isWhole_whole _) xbM (Memref.isWhole_whole _) outM (Memref.isWhole_whole _) commM (Memref.isWhole_whole _) tmpM (Memref.isWhole_whole _) cc0_scratch2 cc0_scratch3 cc0_scratch4 c v2 c2_i32_133) Kt) := by
  rw [k0_part6_eq_skeleton]; unfold k0_part6_skel
  simp only [semSignalWord, semWaitWord, Prog.lift, Prog.bind_op, Prog.bind_ret, Prog.pure_eq_ret, wp_deviceId]
  iintro ⟨#HR, #Hlev, xA, xB, T0, cs10, as10, Ho⟩ Hk
  iapply (ld_A m (ablk 0 1 c) 0 (off4_0 c)) $$ xA; iintro xA
  iapply (ld_B m) $$ xB; iintro xB
  iapply (ld_tmp 0) $$ T0; iintro T0
  iapply (st_tmp 0) $$ T0; iintro T0
  ihave T0 := (tmp_of_eq c (show k0_pay7 (aRow m c (ablk 0 1 c) 0) (xB m c) = part m c (ablk 0 1 c) 0 from rfl)) $$ T0
  iapply (st_wsnd m 1 0 (by decide) (by decide) ((above_from' c (by decide)).mono (by decide)) (dma_slot 1 0)) $$ HR Hlev cs10 as10 Ho
  iintro ⟨S10, zs10, Ho⟩
  rw [wp_ret]; imodintro
  iapply Hk
  isplitl [xA]; · iexact xA
  isplitl [xB]; · iexact xB
  isplitl [T0]; · iexact T0
  isplitl [Ho]; · iexact Ho
  isplitl [S10]; · iexact S10
  iexact zs10

theorem part7 (c : Dev nD) (v13 : BitVec 32) (v24 : BitVec 32) {Kt : (PUnit) → sProp 𝕄} :
    iprop(records m ∗ levAts L lv ∗ cred (tallyAt (rcvCell 1 0 c) 0 N) ∗ atPos ER (rcvCell 1 0 c) 0 ∅ 0 ∗ ow c (owedFrom c 1) ∗ tmpP c 1 (part m c (ablk 1 0 c) 1) ∗ reached ER (barCell (src 0 c)) 1 ∗ dutyTok ER (barCell (prv c)) 1 true ∗ dutyTok ER (barCell (nxt c)) 1 false ∗ slotP c 0 2 (V m 0 0 c) ∗ slotP c 1 2 (V m 1 0 c) ∗ cred (tallyAt (barCell c) 1 2) ∗ atPos ER (barCell c) 1 ∅ 0)
      ⊢ iprop((∀ r, (ow c (owedAfterSig c 1 (owedFrom c 2)) ∗ tmpP c 1 (part m c (ablk 1 0 c) 1) ∗ atPos ER (barCell c) 2 ∅ 0 ∗ reached ER (barCell c) 2 ∗ reached ER (barCell (src 1 c)) 1 ∗ slotP c 1 1 (V m 1 1 c) ∗ (∃ v, slotP (dst 0 c) 0 2 v) ∗ (∃ v, slotP (dst 1 c) 1 2 v) ∗ semVal (rcvCell 1 0 c) 0) -∗ Kt r)
        -∗ wp frame (wpE (defs₀ (F := F)) 𝒱₀ (c : Thread nD τ) none) Set.univ (k0_part7 (F := F) xaM (Memref.isWhole_whole _) xbM (Memref.isWhole_whole _) outM (Memref.isWhole_whole _) commM (Memref.isWhole_whole _) tmpM (Memref.isWhole_whole _) cc0_scratch2 cc0_scratch3 cc0_scratch4 c v13 v24 (SemArray.scalar (sig.barrier 0 rfl))) Kt) := by
  rw [k0_part7_eq_skeleton]; unfold k0_part7_skel
  simp only [semSignalWord, semWaitWord, Prog.lift, Prog.bind_op, Prog.bind_ret, Prog.pure_eq_ret, wp_deviceId]
  iintro ⟨#HR, #Hlev, cv10, av10, Ho, T1, #RP, tp1, tn1, S00, S10, cb1, ab⟩ Hk
  iapply (st_wrcv m 1 0 (by decide) (by decide) ((above_from' c (by decide)).mono (by decide)) (dma_slot 1 1)) $$ HR Hlev cv10 av10 Ho
  iintro ⟨S11, #RN, zv10, Ho⟩
  iapply (ld_slot 1 1) $$ S11; iintro S11
  iapply (ld_tmp 1) $$ T1; iintro T1
  iapply (ld_slot 1 1) $$ S11; iintro S11
  iapply (st_slot 1 1) $$ S11; iintro S11
  ihave S11 := (slot_of_eq c (show k0_pay8 (V m 1 0 (src 1 c)) (part m c (ablk 1 0 c) 1) = V m 1 1 c from (V_add m (r := 1) (k := 0) (by decide) c).symm)) $$ S11
  ihave Ho := (ow_from c (k := 1) (by decide)) $$ Ho
  iapply (st_bar m 1 (by decide) (dev5_eq c) (dev6_eq c) (T := owedFrom c 2) ((above_from' c (by decide)).mono (by decide))) $$ HR Hlev RP RN tp1 tn1 S00 S10 cb1 ab Ho
  iintro ⟨Ho, ab, #RB, ⟨%vn, SN⟩, ⟨%vp, SP⟩⟩
  rw [wp_ret]; imodintro
  iapply Hk
  isplitl [Ho]; · iexact Ho
  isplitl [T1]; · iexact T1
  isplitl [ab]; · iexact ab
  isplitr; · iexact RB
  isplitr; · iexact RN
  isplitl [S11]; · iexact S11
  isplitl [SN]; · iexists _; iexact SN
  isplitl [SP]; · iexists _; iexact SP
  iexact zv10

theorem part8 (c : Dev nD) (v2 : BitVec 32) (v13 : BitVec 32) (v24 : BitVec 32) {Kt : (Σ' (v217 : BitVec 32), BitVec 32) → sProp 𝕄} :
    iprop(records m ∗ levAts L lv ∗ reached ER (barCell c) 2 ∗ slotP c 0 1 (V m 0 1 c) ∗ (∃ v, slotP (dst 0 c) 0 2 v) ∗ dutyTok ER (sndCell 0 1 c) 0 false ∗ dutyTok ER (rcvCell 0 1 (dst 0 c)) 0 false ∗ ow c (owedAfterSig c 1 (owedFrom c 2)) ∗ slotP c 1 1 (V m 1 1 c) ∗ (∃ v, slotP (dst 1 c) 1 2 v) ∗ dutyTok ER (sndCell 1 1 c) 0 false ∗ dutyTok ER (rcvCell 1 1 (dst 1 c)) 0 false)
      ⊢ iprop((∀ r, (ow c (owedFrom c 2) ∗ cred (tallyAt (sndCell 0 1 c) 0 N) ∗ cred (tallyAt (sndCell 1 1 c) 0 N)) -∗ Kt r)
        -∗ wp frame (wpE (defs₀ (F := F)) 𝒱₀ (c : Thread nD τ) none) Set.univ (k0_part8 (F := F) xaM (Memref.isWhole_whole _) xbM (Memref.isWhole_whole _) outM (Memref.isWhole_whole _) commM (Memref.isWhole_whole _) tmpM (Memref.isWhole_whole _) cc0_scratch2 cc0_scratch3 cc0_scratch4 c v2 v13 v24) Kt) := by
  rw [k0_part8_eq_skeleton]; unfold k0_part8_skel
  simp only [semSignalWord, semWaitWord, Prog.lift, Prog.bind_op, Prog.bind_ret, Prog.pure_eq_ret, wp_deviceId]
  iintro ⟨#HR, #Hlev, #RB, S01, ⟨%vSN, SN⟩, ts01, tv01, Ho, S11, ⟨%vSP, SP⟩, ts11, tv11⟩ Hk
  iapply (st_send m 0 1 (by decide) (by decide) (dev7_eq c) (T := owedAfterR c 1 (owedFrom c 2)) (T' := owedAfterSig c 1 (owedFrom c 2)) rfl) $$ HR RB S01 SN ts01 tv01 Ho
  iintro ⟨cs01, Ho⟩
  iapply (st_send m 1 1 (by decide) (by decide) (dev8_eq c) (T := owedFrom c 2) (T' := owedAfterR c 1 (owedFrom c 2)) rfl) $$ HR RB S11 SP ts11 tv11 Ho
  iintro ⟨cs11, Ho⟩
  rw [wp_ret]; imodintro
  iapply Hk
  isplitl [Ho]; · iexact Ho
  isplitl [cs01]; · iexact cs01
  iexact cs11

end Cert.RingIdeal

end
-- ==== Proof.RingIdeal.PartsB.lean ====
/-
# The body, part by part (the rest of the reduction)

Each part of the body, from what it uses to what it leaves; the words the parts pass on are arbitrary.
-/
module

public import proofs.«01_k».proof.Proof.RingIdeal.Steps

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

set_option maxHeartbeats 1000000

theorem part9 (c : Dev nD) (v217 : BitVec 32) (v218 : BitVec 32) {Kt : (BitVec 32) → sProp 𝕄} :
    iprop(records m ∗ levAts L lv ∗ stgA m c ∗ stgB m c ∗ tmpP c 1 (part m c (ablk 1 0 c) 1) ∗ cred (tallyAt (sndCell 0 1 c) 0 N) ∗ atPos ER (sndCell 0 1 c) 0 ∅ 0 ∗ ow c (owedFrom c 2))
      ⊢ iprop((∀ r, (stgA m c ∗ stgB m c ∗ tmpP c 1 (part m c (ablk 1 1 c) 1) ∗ ow c (owedFrom c 2) ∗ slotP c 0 3 (V m 0 1 c) ∗ semVal (sndCell 0 1 c) 0) -∗ Kt r)
        -∗ wp frame (wpE (defs₀ (F := F)) 𝒱₀ (c : Thread nD τ) none) Set.univ (k0_part9 (F := F) xaM (Memref.isWhole_whole _) xbM (Memref.isWhole_whole _) outM (Memref.isWhole_whole _) commM (Memref.isWhole_whole _) tmpM (Memref.isWhole_whole _) cc0_scratch2 cc0_scratch3 cc0_scratch4 c v217 v218) Kt) := by
  rw [k0_part9_eq_skeleton]; unfold k0_part9_skel
  simp only [semSignalWord, semWaitWord, Prog.lift, Prog.bind_op, Prog.bind_ret, Prog.pure_eq_ret, wp_deviceId]
  iintro ⟨#HR, #Hlev, xA, xB, T1, cs01, as01, Ho⟩ Hk
  iapply (ld_A m (ablk 1 1 c) 1 (off3_1 c)) $$ xA; iintro xA
  iapply (ld_B m) $$ xB; iintro xB
  iapply (ld_tmp 1) $$ T1; iintro T1
  iapply (st_tmp 1) $$ T1; iintro T1
  ihave T1 := (tmp_of_eq c (show k0_pay9 (aRow m c (ablk 1 1 c) 1) (xB m c) = part m c (ablk 1 1 c) 1 from rfl)) $$ T1
  iapply (st_wsnd m 0 1 (by decide) (by decide) ((above_from' c (by decide)).mono (by decide)) (dma_slot 0 1)) $$ HR Hlev cs01 as01 Ho
  iintro ⟨S01, zs01, Ho⟩
  rw [wp_ret]; imodintro
  iapply Hk
  isplitl [xA]; · iexact xA
  isplitl [xB]; · iexact xB
  isplitl [T1]; · iexact T1
  isplitl [Ho]; · iexact Ho
  isplitl [S01]; · iexact S01
  iexact zs01

theorem part10 (c : Dev nD) (v2 : BitVec 32) (v24 : BitVec 32) (c1_i32_262 : BitVec 32) {Kt : (BitVec 32) → sProp 𝕄} :
    iprop(records m ∗ levAts L lv ∗ cred (tallyAt (rcvCell 0 1 c) 1 N) ∗ atPos ER (rcvCell 0 1 c) 0 ∅ 0 ∗ ow c (owedFrom c 2) ∗ tmpP c 0 (part m c (ablk 0 1 c) 0))
      ⊢ iprop((∀ r, (ow c (owedFrom c 2) ∗ tmpP c 0 (part m c (ablk 0 1 c) 0) ∗ reached ER (barCell (src 0 c)) 2 ∗ slotP c 0 2 (V m 0 2 c) ∗ semVal (rcvCell 0 1 c) 0) -∗ Kt r)
        -∗ wp frame (wpE (defs₀ (F := F)) 𝒱₀ (c : Thread nD τ) none) Set.univ (k0_part10 (F := F) xaM (Memref.isWhole_whole _) xbM (Memref.isWhole_whole _) outM (Memref.isWhole_whole _) commM (Memref.isWhole_whole _) tmpM (Memref.isWhole_whole _) cc0_scratch2 cc0_scratch3 cc0_scratch4 v2 v24 c1_i32_262) Kt) := by
  rw [k0_part10_eq_skeleton]; unfold k0_part10_skel
  simp only [semSignalWord, semWaitWord, Prog.lift, Prog.bind_op, Prog.bind_ret, Prog.pure_eq_ret, wp_deviceId]
  iintro ⟨#HR, #Hlev, cv01, av01, Ho, T0⟩ Hk
  iapply (st_wrcv m 0 1 (by decide) (by decide) ((above_from' c (by decide)).mono (by decide)) (dma_slot 0 2)) $$ HR Hlev cv01 av01 Ho
  iintro ⟨S00, #RP, zv01, Ho⟩
  iapply (ld_slot 0 2) $$ S00; iintro S00
  iapply (ld_tmp 0) $$ T0; iintro T0
  iapply (ld_slot 0 2) $$ S00; iintro S00
  iapply (st_slot 0 2) $$ S00; iintro S00
  ihave S00 := (slot_of_eq c (show k0_pay10 (V m 0 1 (src 0 c)) (part m c (ablk 0 1 c) 0) = V m 0 2 c from (V_add m (r := 0) (k := 1) (by decide) c).symm)) $$ S00
  rw [wp_ret]; imodintro
  iapply Hk
  isplitl [Ho]; · iexact Ho
  isplitl [T0]; · iexact T0
  isplitr; · iexact RP
  isplitl [S00]; · iexact S00
  iexact zv01

theorem part11 (c : Dev nD) (v13 : BitVec 32) (v274 : BitVec 32) {Kt : (PUnit) → sProp 𝕄} :
    iprop(records m ∗ levAts L lv ∗ stgA m c ∗ stgB m c ∗ tmpP c 0 (part m c (ablk 0 1 c) 0) ∗ cred (tallyAt (sndCell 1 1 c) 0 N) ∗ atPos ER (sndCell 1 1 c) 0 ∅ 0 ∗ ow c (owedFrom c 2) ∗ cred (tallyAt (rcvCell 1 1 c) 1 N) ∗ atPos ER (rcvCell 1 1 c) 0 ∅ 0)
      ⊢ iprop((∀ r, (stgA m c ∗ stgB m c ∗ tmpP c 0 (part m c (ablk 0 2 c) 0) ∗ ow c (owedFrom c 2) ∗ reached ER (barCell (src 1 c)) 2 ∗ slotP c 1 2 (V m 1 1 (src 1 c)) ∗ slotP c 1 3 (V m 1 1 c) ∗ semVal (sndCell 1 1 c) 0 ∗ semVal (rcvCell 1 1 c) 0) -∗ Kt r)
        -∗ wp frame (wpE (defs₀ (F := F)) 𝒱₀ (c : Thread nD τ) none) Set.univ (k0_part11 (F := F) xaM (Memref.isWhole_whole _) xbM (Memref.isWhole_whole _) outM (Memref.isWhole_whole _) commM (Memref.isWhole_whole _) tmpM (Memref.isWhole_whole _) cc0_scratch2 cc0_scratch3 cc0_scratch4 c v13 v274) Kt) := by
  rw [k0_part11_eq_skeleton]; unfold k0_part11_skel
  simp only [semSignalWord, semWaitWord, Prog.lift, Prog.bind_op, Prog.bind_ret, Prog.pure_eq_ret, wp_deviceId]
  iintro ⟨#HR, #Hlev, xA, xB, T0, cs11, as11, Ho, cv11, av11⟩ Hk
  iapply (ld_A m (ablk 0 2 c) 0 (off4_1 c)) $$ xA; iintro xA
  iapply (ld_B m) $$ xB; iintro xB
  iapply (ld_tmp 0) $$ T0; iintro T0
  iapply (st_tmp 0) $$ T0; iintro T0
  ihave T0 := (tmp_of_eq c (show k0_pay11 (aRow m c (ablk 0 2 c) 0) (xB m c) = part m c (ablk 0 2 c) 0 from rfl)) $$ T0
  iapply (st_wsnd m 1 1 (by decide) (by decide) ((above_from' c (by decide)).mono (by decide)) (dma_slot 1 1)) $$ HR Hlev cs11 as11 Ho
  iintro ⟨S11, zs11, Ho⟩
  iapply (st_wrcv m 1 1 (by decide) (by decide) ((above_from' c (by decide)).mono (by decide)) (dma_slot 1 2)) $$ HR Hlev cv11 av11 Ho
  iintro ⟨S10, #RN, zv11, Ho⟩
  rw [wp_ret]; imodintro
  iapply Hk
  isplitl [xA]; · iexact xA
  isplitl [xB]; · iexact xB
  isplitl [T0]; · iexact T0
  isplitl [Ho]; · iexact Ho
  isplitr; · iexact RN
  isplitl [S10]; · iexact S10
  isplitl [S11]; · iexact S11
  isplitl [zs11]; · iexact zs11
  iexact zv11

theorem part12 (c : Dev nD) (v13 : BitVec 32) (v24 : BitVec 32) {Kt : (PUnit) → sProp 𝕄} :
    iprop(records m ∗ levAts L lv ∗ slotP c 1 2 (V m 1 1 (src 1 c)) ∗ tmpP c 1 (part m c (ablk 1 1 c) 1) ∗ reached ER (barCell (src 0 c)) 2 ∗ reached ER (barCell (src 1 c)) 2 ∗ dutyTok ER (barCell (prv c)) 2 true ∗ dutyTok ER (barCell (nxt c)) 2 false ∗ slotP c 0 3 (V m 0 1 c) ∗ slotP c 1 3 (V m 1 1 c) ∗ cred (tallyAt (barCell c) 2 2) ∗ atPos ER (barCell c) 2 ∅ 0 ∗ ow c (owedFrom c 2))
      ⊢ iprop((∀ r, (slotP c 1 2 (V m 1 2 c) ∗ tmpP c 1 (part m c (ablk 1 1 c) 1) ∗ atPos ER (barCell c) 3 ∅ 0 ∗ ow c (owedAfterSig c 2 (owedFrom c 3)) ∗ reached ER (barCell c) 3 ∗ (∃ v, slotP (dst 0 c) 0 3 v) ∗ (∃ v, slotP (dst 1 c) 1 3 v)) -∗ Kt r)
        -∗ wp frame (wpE (defs₀ (F := F)) 𝒱₀ (c : Thread nD τ) none) Set.univ (k0_part12 (F := F) xaM (Memref.isWhole_whole _) xbM (Memref.isWhole_whole _) outM (Memref.isWhole_whole _) commM (Memref.isWhole_whole _) tmpM (Memref.isWhole_whole _) cc0_scratch2 cc0_scratch3 cc0_scratch4 c v13 v24 (SemArray.scalar (sig.barrier 0 rfl))) Kt) := by
  rw [k0_part12_eq_skeleton]; unfold k0_part12_skel
  simp only [semSignalWord, semWaitWord, Prog.lift, Prog.bind_op, Prog.bind_ret, Prog.pure_eq_ret, wp_deviceId]
  iintro ⟨#HR, #Hlev, S10, T1, #RP, #RN, tp2, tn2, S01, S11, cb2, ab, Ho⟩ Hk
  iapply (ld_slot 1 2) $$ S10; iintro S10
  iapply (ld_tmp 1) $$ T1; iintro T1
  iapply (ld_slot 1 2) $$ S10; iintro S10
  iapply (st_slot 1 2) $$ S10; iintro S10
  ihave S10 := (slot_of_eq c (show k0_pay12 (V m 1 1 (src 1 c)) (part m c (ablk 1 1 c) 1) = V m 1 2 c from (V_add m (r := 1) (k := 1) (by decide) c).symm)) $$ S10
  ihave Ho := (ow_from c (k := 2) (by decide)) $$ Ho
  iapply (st_bar m 2 (by decide) (dev9_eq c) (dev10_eq c) (T := owedFrom c 3) ((above_from' c (by decide)).mono (by decide))) $$ HR Hlev RP RN tp2 tn2 S01 S11 cb2 ab Ho
  iintro ⟨Ho, ab, #RB, ⟨%vn, SN⟩, ⟨%vp, SP⟩⟩
  rw [wp_ret]; imodintro
  iapply Hk
  isplitl [S10]; · iexact S10
  isplitl [T1]; · iexact T1
  isplitl [ab]; · iexact ab
  isplitl [Ho]; · iexact Ho
  isplitr; · iexact RB
  isplitl [SN]; · iexists _; iexact SN
  iexists _; iexact SP

theorem part13 (c : Dev nD) (v2 : BitVec 32) (v13 : BitVec 32) {Kt : (Σ' (v348 : FVec F S384x1536 .f32) (v350 : FVec F S1536x3072 .f32), FVec F S384x3072 .f32) → sProp 𝕄} :
    iprop(records m ∗ levAts L lv ∗ reached ER (barCell c) 3 ∗ slotP c 0 2 (V m 0 2 c) ∗ (∃ v, slotP (dst 0 c) 0 3 v) ∗ dutyTok ER (sndCell 0 2 c) 0 false ∗ dutyTok ER (rcvCell 0 2 (dst 0 c)) 0 false ∗ ow c (owedAfterSig c 2 (owedFrom c 3)) ∗ slotP c 1 2 (V m 1 2 c) ∗ (∃ v, slotP (dst 1 c) 1 3 v) ∗ dutyTok ER (sndCell 1 2 c) 0 false ∗ dutyTok ER (rcvCell 1 2 (dst 1 c)) 0 false ∗ stgA m c ∗ stgB m c)
      ⊢ iprop(((ow c (owedFrom c 3) ∗ stgA m c ∗ stgB m c ∗ cred (tallyAt (sndCell 0 2 c) 0 N) ∗ cred (tallyAt (sndCell 1 2 c) 0 N)) -∗ Kt ⟨k0_pay13 (aRow m c (ablk 1 2 c) 1), k0_pay14 (xB m c), constant S384x3072 .f32 0x00000000#32⟩)
        -∗ wp frame (wpE (defs₀ (F := F)) 𝒱₀ (c : Thread nD τ) none) Set.univ (k0_part13 (F := F) xaM (Memref.isWhole_whole _) xbM (Memref.isWhole_whole _) outM (Memref.isWhole_whole _) commM (Memref.isWhole_whole _) tmpM (Memref.isWhole_whole _) cc0_scratch2 cc0_scratch3 cc0_scratch4 c v2 v13) Kt) := by
  rw [k0_part13_eq_skeleton]; unfold k0_part13_skel
  simp only [semSignalWord, semWaitWord, Prog.lift, Prog.bind_op, Prog.bind_ret, Prog.pure_eq_ret, wp_deviceId]
  iintro ⟨#HR, #Hlev, #RB, S00, ⟨%vSN, SN⟩, ts02, tv02, Ho, S10, ⟨%vSP, SP⟩, ts12, tv12, xA, xB⟩ Hk
  iapply (st_send m 0 2 (by decide) (by decide) (dev11_eq c) (T := owedAfterR c 2 (owedFrom c 3)) (T' := owedAfterSig c 2 (owedFrom c 3)) rfl) $$ HR RB S00 SN ts02 tv02 Ho
  iintro ⟨cs02, Ho⟩
  iapply (st_send m 1 2 (by decide) (by decide) (dev12_eq c) (T := owedFrom c 3) (T' := owedAfterR c 2 (owedFrom c 3)) rfl) $$ HR RB S10 SP ts12 tv12 Ho
  iintro ⟨cs12, Ho⟩
  iapply (ld_A m (ablk 1 2 c) 1 (off3_2 c)) $$ xA; iintro xA
  iapply (ld_B m) $$ xB; iintro xB
  rw [wp_ret]; imodintro
  iapply Hk
  isplitl [Ho]; · iexact Ho
  isplitl [xA]; · iexact xA
  isplitl [xB]; · iexact xB
  isplitl [cs02]; · iexact cs02
  iexact cs12

theorem part14 (c : Dev nD) (v24 : BitVec 32) {Kt : (FVec F S384x3072 .f32) → sProp 𝕄} :
    iprop(records m ∗ levAts L lv ∗ tmpP c 1 (part m c (ablk 1 1 c) 1) ∗ cred (tallyAt (sndCell 0 2 c) 0 N) ∗ atPos ER (sndCell 0 2 c) 0 ∅ 0 ∗ ow c (owedFrom c 3) ∗ cred (tallyAt (rcvCell 0 2 c) 2 N) ∗ atPos ER (rcvCell 0 2 c) 0 ∅ 0)
      ⊢ iprop(((tmpP c 1 (part m c (ablk 1 2 c) 1) ∗ ow c (owedFrom c 3) ∗ reached ER (barCell (src 0 c)) 3 ∗ slotP c 0 4 (V m 0 2 c) ∗ slotP c 0 3 (V m 0 2 (src 0 c)) ∗ semVal (sndCell 0 2 c) 0 ∗ semVal (rcvCell 0 2 c) 0) -∗ Kt (k0_pay16 (V m 0 2 (src 0 c))))
        -∗ wp frame (wpE (defs₀ (F := F)) 𝒱₀ (c : Thread nD τ) none) Set.univ (k0_part14 (F := F) xaM (Memref.isWhole_whole _) xbM (Memref.isWhole_whole _) outM (Memref.isWhole_whole _) commM (Memref.isWhole_whole _) tmpM (Memref.isWhole_whole _) cc0_scratch2 cc0_scratch3 cc0_scratch4 v24 (k0_pay13 (aRow m c (ablk 1 2 c) 1)) (k0_pay14 (xB m c)) (constant S384x3072 .f32 0x00000000#32)) Kt) := by
  rw [k0_part14_eq_skeleton]; unfold k0_part14_skel
  simp only [semSignalWord, semWaitWord, Prog.lift, Prog.bind_op, Prog.bind_ret, Prog.pure_eq_ret, wp_deviceId]
  iintro ⟨#HR, #Hlev, T1, cs02, as02, Ho, cv02, av02⟩ Hk
  iapply (ld_tmp 1) $$ T1; iintro T1
  iapply (st_tmp 1) $$ T1; iintro T1
  ihave T1 := (tmp_of_eq c (show k0_pay15 (k0_pay13 (aRow m c (ablk 1 2 c) 1)) (k0_pay14 (xB m c)) (constant S384x3072 .f32 0x00000000#32) = part m c (ablk 1 2 c) 1 from rfl)) $$ T1
  iapply (st_wsnd m 0 2 (by decide) (by decide) ((above_from' c (by decide)).mono (by decide)) (dma_slot 0 2)) $$ HR Hlev cs02 as02 Ho
  iintro ⟨S00, zs02, Ho⟩
  iapply (st_wrcv m 0 2 (by decide) (by decide) ((above_from' c (by decide)).mono (by decide)) (dma_slot 0 3)) $$ HR Hlev cv02 av02 Ho
  iintro ⟨S01, #RP, zv02, Ho⟩
  iapply (ld_slot 0 3) $$ S01; iintro S01
  rw [wp_ret]; imodintro
  iapply Hk
  isplitl [T1]; · iexact T1
  isplitl [Ho]; · iexact Ho
  isplitr; · iexact RP
  isplitl [S00]; · iexact S00
  isplitl [S01]; · iexact S01
  isplitl [zs02]; · iexact zs02
  iexact zv02

theorem part15 (c : Dev nD) (v13 : BitVec 32) {Kt : (PUnit) → sProp 𝕄} :
    iprop(records m ∗ levAts L lv ∗ tmpP c 0 (part m c (ablk 0 2 c) 0) ∗ slotP c 0 3 (V m 0 2 (src 0 c)) ∗ cred (tallyAt (sndCell 1 2 c) 0 N) ∗ atPos ER (sndCell 1 2 c) 0 ∅ 0 ∗ ow c (owedFrom c 3) ∗ cred (tallyAt (rcvCell 1 2 c) 2 N) ∗ atPos ER (rcvCell 1 2 c) 0 ∅ 0)
      ⊢ iprop((∀ r, (tmpP c 0 (part m c (ablk 0 2 c) 0) ∗ slotP c 0 3 (V m 0 3 c) ∗ ow c (owedFrom c 3) ∗ reached ER (barCell (src 1 c)) 3 ∗ slotP c 1 4 (V m 1 2 c) ∗ slotP c 1 3 (V m 1 2 (src 1 c)) ∗ semVal (sndCell 1 2 c) 0 ∗ semVal (rcvCell 1 2 c) 0) -∗ Kt r)
        -∗ wp frame (wpE (defs₀ (F := F)) 𝒱₀ (c : Thread nD τ) none) Set.univ (k0_part15 (F := F) xaM (Memref.isWhole_whole _) xbM (Memref.isWhole_whole _) outM (Memref.isWhole_whole _) commM (Memref.isWhole_whole _) tmpM (Memref.isWhole_whole _) cc0_scratch2 cc0_scratch3 cc0_scratch4 v13 (k0_pay16 (V m 0 2 (src 0 c)))) Kt) := by
  rw [k0_part15_eq_skeleton]; unfold k0_part15_skel
  simp only [semSignalWord, semWaitWord, Prog.lift, Prog.bind_op, Prog.bind_ret, Prog.pure_eq_ret, wp_deviceId]
  iintro ⟨#HR, #Hlev, T0, S01, cs12, as12, Ho, cv12, av12⟩ Hk
  iapply (ld_tmp 0) $$ T0; iintro T0
  iapply (ld_slot 0 3) $$ S01; iintro S01
  iapply (st_slot 0 3) $$ S01; iintro S01
  ihave S01 := (slot_of_eq c (show k0_pay17 (k0_pay16 (V m 0 2 (src 0 c))) (part m c (ablk 0 2 c) 0) = V m 0 3 c from (V_add m (r := 0) (k := 2) (by decide) c).symm)) $$ S01
  iapply (st_wsnd m 1 2 (by decide) (by decide) ((above_from' c (by decide)).mono (by decide)) (dma_slot 1 2)) $$ HR Hlev cs12 as12 Ho
  iintro ⟨S10, zs12, Ho⟩
  iapply (st_wrcv m 1 2 (by decide) (by decide) ((above_from' c (by decide)).mono (by decide)) (dma_slot 1 3)) $$ HR Hlev cv12 av12 Ho
  iintro ⟨S11, #RN, zv12, Ho⟩
  rw [wp_ret]; imodintro
  iapply Hk
  isplitl [T0]; · iexact T0
  isplitl [S01]; · iexact S01
  isplitl [Ho]; · iexact Ho
  isplitr; · iexact RN
  isplitl [S10]; · iexact S10
  isplitl [S11]; · iexact S11
  isplitl [zs12]; · iexact zs12
  iexact zv12

theorem part16 (c : Dev nD) (v2 : BitVec 32) {Kt : (Σ' (v413 : BitVec 32) (v424 : BitVec 32), FVec F S384x3072 .bf16) → sProp 𝕄} :
    iprop(records m ∗ levAts L lv ∗ slotP c 1 3 (V m 1 2 (src 1 c)) ∗ tmpP c 1 (part m c (ablk 1 2 c) 1) ∗ slotP c 0 3 (V m 0 3 c))
      ⊢ iprop((∀ w413 w424, (slotP c 1 3 (V m 1 3 c) ∗ tmpP c 1 (part m c (ablk 1 2 c) 1) ∗ slotP c 0 3 (V m 0 3 c)) -∗ Kt ⟨w413, w424, k0_pay19 (V m 0 3 c)⟩)
        -∗ wp frame (wpE (defs₀ (F := F)) 𝒱₀ (c : Thread nD τ) none) Set.univ (k0_part16 (F := F) xaM (Memref.isWhole_whole _) xbM (Memref.isWhole_whole _) outM (Memref.isWhole_whole _) commM (Memref.isWhole_whole _) tmpM (Memref.isWhole_whole _) cc0_scratch2 cc0_scratch3 cc0_scratch4 v2) Kt) := by
  rw [k0_part16_eq_skeleton]; unfold k0_part16_skel
  simp only [semSignalWord, semWaitWord, Prog.lift, Prog.bind_op, Prog.bind_ret, Prog.pure_eq_ret, wp_deviceId]
  iintro ⟨#HR, #Hlev, S11, T1, S01⟩ Hk
  iapply (ld_slot 1 3) $$ S11; iintro S11
  iapply (ld_tmp 1) $$ T1; iintro T1
  iapply (ld_slot 1 3) $$ S11; iintro S11
  iapply (st_slot 1 3) $$ S11; iintro S11
  ihave S11 := (slot_of_eq c (show k0_pay18 (V m 1 2 (src 1 c)) (part m c (ablk 1 2 c) 1) = V m 1 3 c from (V_add m (r := 1) (k := 2) (by decide) c).symm)) $$ S11
  iapply (ld_slot 0 3) $$ S01; iintro S01
  rw [wp_ret]; imodintro
  iapply Hk
  isplitl [S11]; · iexact S11
  isplitl [T1]; · iexact T1
  iexact S01

end Cert.RingIdeal

end
-- ==== Proof.RingIdeal.PartsC.lean ====
/-
# The body, part by part (the first two gathered tiles)

Each part of the body, from what it uses to what it leaves; the words the parts pass on are arbitrary.
-/
module

public import proofs.«01_k».proof.Proof.RingIdeal.Steps

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

set_option maxHeartbeats 1000000

theorem part17 (c : Dev nD) (v413 : BitVec 32) (v424 : BitVec 32) {Kt : (PUnit) → sProp 𝕄} :
    iprop(records m ∗ levAts L lv ∗ tmpP c 0 (part m c (ablk 0 2 c) 0) ∗ slotP c 1 3 (V m 1 3 c) ∗ tmpP c 1 (part m c (ablk 1 2 c) 1) ∗ reached ER (cpyCell 0 c) 0 ∗ (∃ v, outP c (oblk 0 0 c) 0 v) ∗ dutyTok ER (cpyCell 0 c) 0 false ∗ reached ER (cpyCell 1 c) 0 ∗ (∃ v, outP c (oblk 1 0 c) 1 v) ∗ dutyTok ER (cpyCell 1 c) 0 false)
      ⊢ iprop((∀ r, (slotP c 1 3 (V m 1 3 c) ∗ cred (tallyAt (cpyCell 0 c) 0 NC) ∗ cred (tallyAt (cpyCell 1 c) 0 NC)) -∗ Kt r)
        -∗ wp frame (wpE (defs₀ (F := F)) 𝒱₀ (c : Thread nD τ) none) Set.univ (k0_part17 (F := F) xaM (Memref.isWhole_whole _) xbM (Memref.isWhole_whole _) outM (Memref.isWhole_whole _) commM (Memref.isWhole_whole _) tmpM (Memref.isWhole_whole _) cc0_scratch2 cc0_scratch3 cc0_scratch4 c v413 v424 (k0_pay19 (V m 0 3 c))) Kt) := by
  rw [k0_part17_eq_skeleton]; unfold k0_part17_skel
  simp only [semSignalWord, semWaitWord, Prog.lift, Prog.bind_op, Prog.bind_ret, Prog.pure_eq_ret, wp_deviceId]
  iintro ⟨#HR, #Hlev, T0, S11, T1, #RC0, ⟨%vO00, O00⟩, tc00, #RC1, ⟨%vO10, O10⟩, tc10⟩ Hk
  iapply (ld_tmp 0) $$ T0; iintro T0
  iapply (st_tmp 0) $$ T0; iintro T0
  ihave T0 := (tmp_of_eq c (show k0_pay20 (k0_pay19 (V m 0 3 c)) = tile m 0 0 c from rfl)) $$ T0
  iapply (ld_slot 1 3) $$ S11; iintro S11
  iapply (ld_tmp 1) $$ T1; iintro T1
  iapply (st_tmp 1) $$ T1; iintro T1
  ihave T1 := (tmp_of_eq c (show k0_pay21 (V m 1 3 c) = tile m 1 0 c from rfl)) $$ T1
  iapply (st_cpy m 0 0 (by decide) (by decide) (off5_0 c)) $$ HR RC0 T0 O00 tc00; iintro cc0
  iapply (st_cpy m 1 0 (by decide) (by decide) (off6_0 c)) $$ HR RC1 T1 O10 tc10; iintro cc1
  rw [wp_ret]; imodintro
  iapply Hk
  isplitl [S11]; · iexact S11
  isplitl [cc0]; · iexact cc0
  iexact cc1

theorem part18 (c : Dev nD) (v13 : BitVec 32) (v24 : BitVec 32) {Kt : (PUnit) → sProp 𝕄} :
    iprop(records m ∗ levAts L lv ∗ cred (tallyAt (cpyCell 0 c) 0 NC) ∗ atPos ER (cpyCell 0 c) 0 ∅ 0 ∗ ow c (owedFrom c 3) ∗ cred (tallyAt (cpyCell 1 c) 0 NC) ∗ atPos ER (cpyCell 1 c) 0 ∅ 0 ∗ reached ER (barCell (src 0 c)) 3 ∗ reached ER (barCell (src 1 c)) 3 ∗ dutyTok ER (barCell (prv c)) 3 true ∗ dutyTok ER (barCell (nxt c)) 3 false ∗ slotP c 0 4 (V m 0 2 c) ∗ slotP c 1 4 (V m 1 2 c) ∗ cred (tallyAt (barCell c) 3 2) ∗ atPos ER (barCell c) 3 ∅ 0 ∗ slotP c 0 3 (V m 0 3 c) ∗ dutyTok ER (sndCell 0 3 c) 0 false ∗ dutyTok ER (rcvCell 0 3 (dst 0 c)) 0 false)
      ⊢ iprop((∀ r, (atPos ER (cpyCell 0 c) 1 ∅ 0 ∗ ow c (owedAfterR c 3 (owedFrom c 4)) ∗ atPos ER (cpyCell 1 c) 1 ∅ 0 ∗ atPos ER (barCell c) 4 ∅ 0 ∗ reached ER (barCell c) 4 ∗ reached ER (cpyCell 0 c) 1 ∗ reached ER (cpyCell 1 c) 1 ∗ outP c (oblk 0 0 c) 0 (flat (tile m 0 0 c)) ∗ outP c (oblk 1 0 c) 1 (flat (tile m 1 0 c)) ∗ (∃ v, slotP (dst 1 c) 1 4 v) ∗ tmpP c 0 (tile m 0 0 c) ∗ tmpP c 1 (tile m 1 0 c) ∗ cred (tallyAt (sndCell 0 3 c) 0 N)) -∗ Kt r)
        -∗ wp frame (wpE (defs₀ (F := F)) 𝒱₀ (c : Thread nD τ) none) Set.univ (k0_part18 (F := F) xaM (Memref.isWhole_whole _) xbM (Memref.isWhole_whole _) outM (Memref.isWhole_whole _) commM (Memref.isWhole_whole _) tmpM (Memref.isWhole_whole _) cc0_scratch2 cc0_scratch3 cc0_scratch4 c v13 v24 (SemArray.scalar (sig.barrier 0 rfl))) Kt) := by
  rw [k0_part18_eq_skeleton]; unfold k0_part18_skel
  simp only [semSignalWord, semWaitWord, Prog.lift, Prog.bind_op, Prog.bind_ret, Prog.pure_eq_ret, wp_deviceId]
  iintro ⟨#HR, #Hlev, cc0, ac0, Ho, cc1, ac1, #RP, #RN, tp3, tn3, S00, S10, cb3, ab, S01, ts03, tv03⟩ Hk
  iapply (st_wcpy m 0 0 (by decide) (by decide) ((above_from' c (by decide)).mono (by decide)) (dma_out _ _)) $$ HR Hlev cc0 ac0 Ho
  iintro ⟨T0, O00, ac0, #RC0, Ho⟩
  iapply (st_wcpy m 1 0 (by decide) (by decide) ((above_from' c (by decide)).mono (by decide)) (dma_out _ _)) $$ HR Hlev cc1 ac1 Ho
  iintro ⟨T1, O10, ac1, #RC1, Ho⟩
  ihave Ho := (ow_from c (k := 3) (by decide)) $$ Ho
  iapply (st_bar m 3 (by decide) (dev13_eq c) (dev14_eq c) (T := owedFrom c 4) ((above_from' c (by decide)).mono (by decide))) $$ HR Hlev RP RN tp3 tn3 S00 S10 cb3 ab Ho
  iintro ⟨Ho, ab, #RB, ⟨%vn, SN⟩, ⟨%vp, SP⟩⟩
  iapply (st_send m 0 3 (by decide) (by decide) (dev15_eq c) (T := owedAfterR c 3 (owedFrom c 4)) (T' := owedAfterSig c 3 (owedFrom c 4)) rfl) $$ HR RB S01 SN ts03 tv03 Ho
  iintro ⟨cs03, Ho⟩
  rw [wp_ret]; imodintro
  iapply Hk
  isplitl [ac0]; · iexact ac0
  isplitl [Ho]; · iexact Ho
  isplitl [ac1]; · iexact ac1
  isplitl [ab]; · iexact ab
  isplitr; · iexact RB
  isplitr; · iexact RC0
  isplitr; · iexact RC1
  isplitl [O00]; · iexact O00
  isplitl [O10]; · iexact O10
  isplitl [SP]; · iexists _; iexact SP
  isplitl [T0]; · iexact T0
  isplitl [T1]; · iexact T1
  iexact cs03

theorem part19 (c : Dev nD) (v13 : BitVec 32) (v24 : BitVec 32) {Kt : (PUnit) → sProp 𝕄} :
    iprop(records m ∗ levAts L lv ∗ reached ER (barCell c) 4 ∗ slotP c 1 3 (V m 1 3 c) ∗ (∃ v, slotP (dst 1 c) 1 4 v) ∗ dutyTok ER (sndCell 1 3 c) 0 false ∗ dutyTok ER (rcvCell 1 3 (dst 1 c)) 0 false ∗ ow c (owedAfterR c 3 (owedFrom c 4)) ∗ cred (tallyAt (sndCell 0 3 c) 0 N) ∗ atPos ER (sndCell 0 3 c) 0 ∅ 0)
      ⊢ iprop((∀ r, (ow c (owedFrom c 4) ∗ slotP c 0 5 (V m 0 3 c) ∗ cred (tallyAt (sndCell 1 3 c) 0 N) ∗ semVal (sndCell 0 3 c) 0) -∗ Kt r)
        -∗ wp frame (wpE (defs₀ (F := F)) 𝒱₀ (c : Thread nD τ) none) Set.univ (k0_part19 (F := F) xaM (Memref.isWhole_whole _) xbM (Memref.isWhole_whole _) outM (Memref.isWhole_whole _) commM (Memref.isWhole_whole _) tmpM (Memref.isWhole_whole _) cc0_scratch2 cc0_scratch3 cc0_scratch4 c v13 v24) Kt) := by
  rw [k0_part19_eq_skeleton]; unfold k0_part19_skel
  simp only [semSignalWord, semWaitWord, Prog.lift, Prog.bind_op, Prog.bind_ret, Prog.pure_eq_ret, wp_deviceId]
  iintro ⟨#HR, #Hlev, #RB, S11, ⟨%vSP, SP⟩, ts13, tv13, Ho, cs03, as03⟩ Hk
  iapply (st_send m 1 3 (by decide) (by decide) (dev16_eq c) (T := owedFrom c 4) (T' := owedAfterR c 3 (owedFrom c 4)) rfl) $$ HR RB S11 SP ts13 tv13 Ho
  iintro ⟨cs13, Ho⟩
  iapply (st_wsnd m 0 3 (by decide) (by decide) ((above_from' c (by decide)).mono (by decide)) (dma_slot 0 3)) $$ HR Hlev cs03 as03 Ho
  iintro ⟨S01, zs03, Ho⟩
  rw [wp_ret]; imodintro
  iapply Hk
  isplitl [Ho]; · iexact Ho
  isplitl [S01]; · iexact S01
  isplitl [cs13]; · iexact cs13
  iexact zs03

theorem part20 (c : Dev nD) (v2 : BitVec 32) {Kt : (PUnit) → sProp 𝕄} :
    iprop(records m ∗ levAts L lv ∗ cred (tallyAt (rcvCell 0 3 c) 3 N) ∗ atPos ER (rcvCell 0 3 c) 0 ∅ 0 ∗ ow c (owedFrom c 4) ∗ tmpP c 0 (tile m 0 0 c) ∗ reached ER (cpyCell 0 c) 1 ∗ (∃ v, outP c (oblk 0 1 c) 0 v) ∗ dutyTok ER (cpyCell 0 c) 1 false)
      ⊢ iprop((∀ r, (ow c (owedFrom c 4) ∗ reached ER (barCell (src 0 c)) 4 ∗ slotP c 0 4 (V m 0 4 c) ∗ cred (tallyAt (cpyCell 0 c) 0 NC) ∗ semVal (rcvCell 0 3 c) 0) -∗ Kt r)
        -∗ wp frame (wpE (defs₀ (F := F)) 𝒱₀ (c : Thread nD τ) none) Set.univ (k0_part20 (F := F) xaM (Memref.isWhole_whole _) xbM (Memref.isWhole_whole _) outM (Memref.isWhole_whole _) commM (Memref.isWhole_whole _) tmpM (Memref.isWhole_whole _) cc0_scratch2 cc0_scratch3 cc0_scratch4 c v2) Kt) := by
  rw [k0_part20_eq_skeleton]; unfold k0_part20_skel
  simp only [semSignalWord, semWaitWord, Prog.lift, Prog.bind_op, Prog.bind_ret, Prog.pure_eq_ret, wp_deviceId]
  iintro ⟨#HR, #Hlev, cv03, av03, Ho, T0, #RC0, ⟨%vO01, O01⟩, tc01⟩ Hk
  iapply (st_wrcv m 0 3 (by decide) (by decide) ((above_from' c (by decide)).mono (by decide)) (dma_slot 0 4)) $$ HR Hlev cv03 av03 Ho
  iintro ⟨S00, #RP, zv03, Ho⟩
  ihave S00 := (slot_of_eq c (V_fwd m (r := 0) (k := 3) (by decide) c).symm) $$ S00
  iapply (ld_slot 0 4) $$ S00; iintro S00
  iapply (ld_tmp 0) $$ T0; iintro T0
  iapply (st_tmp 0) $$ T0; iintro T0
  ihave T0 := (tmp_of_eq c (show k0_pay22 (V m 0 4 c) = tile m 0 1 c from rfl)) $$ T0
  iapply (st_cpy m 0 1 (by decide) (by decide) (off6_1 c)) $$ HR RC0 T0 O01 tc01; iintro cc0
  rw [wp_ret]; imodintro
  iapply Hk
  isplitl [Ho]; · iexact Ho
  isplitr; · iexact RP
  isplitl [S00]; · iexact S00
  isplitl [cc0]; · iexact cc0
  iexact zv03

theorem part21 (c : Dev nD) (v2 : BitVec 32) (v13 : BitVec 32) {Kt : (Σ' (v545 : BitVec 32) (v546 : BitVec 32) (v547 : BitVec 1) (v548 : BitVec 1), BitVec 1) → sProp 𝕄} :
    iprop(records m ∗ levAts L lv ∗ cred (tallyAt (sndCell 1 3 c) 0 N) ∗ atPos ER (sndCell 1 3 c) 0 ∅ 0 ∗ ow c (owedFrom c 4) ∗ cred (tallyAt (rcvCell 1 3 c) 3 N) ∗ atPos ER (rcvCell 1 3 c) 0 ∅ 0 ∗ tmpP c 1 (tile m 1 0 c))
      ⊢ iprop((∀ r, (ow c (owedFrom c 4) ∗ tmpP c 1 (tile m 1 1 c) ∗ reached ER (barCell (src 1 c)) 4 ∗ slotP c 1 4 (V m 1 4 c) ∗ slotP c 1 5 (V m 1 3 c) ∗ semVal (sndCell 1 3 c) 0 ∗ semVal (rcvCell 1 3 c) 0) -∗ Kt r)
        -∗ wp frame (wpE (defs₀ (F := F)) 𝒱₀ (c : Thread nD τ) none) Set.univ (k0_part21 (F := F) xaM (Memref.isWhole_whole _) xbM (Memref.isWhole_whole _) outM (Memref.isWhole_whole _) commM (Memref.isWhole_whole _) tmpM (Memref.isWhole_whole _) cc0_scratch2 cc0_scratch3 cc0_scratch4 v2 v13) Kt) := by
  rw [k0_part21_eq_skeleton]; unfold k0_part21_skel
  simp only [semSignalWord, semWaitWord, Prog.lift, Prog.bind_op, Prog.bind_ret, Prog.pure_eq_ret, wp_deviceId]
  iintro ⟨#HR, #Hlev, cs13, as13, Ho, cv13, av13, T1⟩ Hk
  iapply (st_wsnd m 1 3 (by decide) (by decide) ((above_from' c (by decide)).mono (by decide)) (dma_slot 1 3)) $$ HR Hlev cs13 as13 Ho
  iintro ⟨S11, zs13, Ho⟩
  iapply (st_wrcv m 1 3 (by decide) (by decide) ((above_from' c (by decide)).mono (by decide)) (dma_slot 1 4)) $$ HR Hlev cv13 av13 Ho
  iintro ⟨S10, #RN, zv13, Ho⟩
  ihave S10 := (slot_of_eq c (V_fwd m (r := 1) (k := 3) (by decide) c).symm) $$ S10
  iapply (ld_slot 1 4) $$ S10; iintro S10
  iapply (ld_tmp 1) $$ T1; iintro T1
  iapply (st_tmp 1) $$ T1; iintro T1
  ihave T1 := (tmp_of_eq c (show k0_pay23 (V m 1 4 c) = tile m 1 1 c from rfl)) $$ T1
  rw [wp_ret]; imodintro
  iapply Hk
  isplitl [Ho]; · iexact Ho
  isplitl [T1]; · iexact T1
  isplitr; · iexact RN
  isplitl [S10]; · iexact S10
  isplitl [S11]; · iexact S11
  isplitl [zs13]; · iexact zs13
  iexact zv13

theorem part22 (c : Dev nD) (v13 : BitVec 32) (v24 : BitVec 32) (v545 : BitVec 32) (v546 : BitVec 32) (v547 : BitVec 1) (v548 : BitVec 1) (v549 : BitVec 1) {Kt : (PUnit) → sProp 𝕄} :
    iprop(records m ∗ levAts L lv ∗ reached ER (cpyCell 1 c) 1 ∗ tmpP c 1 (tile m 1 1 c) ∗ (∃ v, outP c (oblk 1 1 c) 1 v) ∗ dutyTok ER (cpyCell 1 c) 1 false ∗ cred (tallyAt (cpyCell 0 c) 0 NC) ∗ atPos ER (cpyCell 0 c) 1 ∅ 0 ∗ ow c (owedFrom c 4) ∗ atPos ER (cpyCell 1 c) 1 ∅ 0 ∗ reached ER (barCell (src 0 c)) 4 ∗ reached ER (barCell (src 1 c)) 4 ∗ dutyTok ER (barCell (prv c)) 4 true ∗ dutyTok ER (barCell (nxt c)) 4 false ∗ slotP c 0 5 (V m 0 3 c) ∗ slotP c 1 5 (V m 1 3 c) ∗ cred (tallyAt (barCell c) 4 2) ∗ atPos ER (barCell c) 4 ∅ 0)
      ⊢ iprop((∀ r, (reached ER (cpyCell 1 c) 2 ∗ tmpP c 1 (tile m 1 1 c) ∗ outP c (oblk 1 1 c) 1 (flat (tile m 1 1 c)) ∗ atPos ER (cpyCell 0 c) 2 ∅ 0 ∗ ow c (owedAfterSig c 4 (owedFrom c 5)) ∗ atPos ER (cpyCell 1 c) 2 ∅ 0 ∗ atPos ER (barCell c) 5 ∅ 0 ∗ reached ER (barCell c) 5 ∗ reached ER (cpyCell 0 c) 2 ∗ outP c (oblk 0 1 c) 0 (flat (tile m 0 1 c)) ∗ (∃ v, slotP (dst 0 c) 0 5 v) ∗ (∃ v, slotP (dst 1 c) 1 5 v) ∗ tmpP c 0 (tile m 0 1 c)) -∗ Kt r)
        -∗ wp frame (wpE (defs₀ (F := F)) 𝒱₀ (c : Thread nD τ) none) Set.univ (k0_part22 (F := F) xaM (Memref.isWhole_whole _) xbM (Memref.isWhole_whole _) outM (Memref.isWhole_whole _) commM (Memref.isWhole_whole _) tmpM (Memref.isWhole_whole _) cc0_scratch2 cc0_scratch3 cc0_scratch4 c v13 v24 (SemArray.scalar (sig.barrier 0 rfl)) v545 v546 v547 v548 v549) Kt) := by
  rw [k0_part22_eq_skeleton]; unfold k0_part22_skel
  simp only [semSignalWord, semWaitWord, Prog.lift, Prog.bind_op, Prog.bind_ret, Prog.pure_eq_ret, wp_deviceId]
  iintro ⟨#HR, #Hlev, #RC1, T1, ⟨%vO11, O11⟩, tc11, cc0, ac0, Ho, ac1, #RP, #RN, tp4, tn4, S01, S11, cb4, ab⟩ Hk
  iapply (st_cpy m 1 1 (by decide) (by decide) (off5_1 c)) $$ HR RC1 T1 O11 tc11; iintro cc1
  iapply (st_wcpy m 0 1 (by decide) (by decide) ((above_from' c (by decide)).mono (by decide)) (dma_out _ _)) $$ HR Hlev cc0 ac0 Ho
  iintro ⟨T0, O01, ac0, #RC0, Ho⟩
  iapply (st_wcpy m 1 1 (by decide) (by decide) ((above_from' c (by decide)).mono (by decide)) (dma_out _ _)) $$ HR Hlev cc1 ac1 Ho
  iintro ⟨T1, O11, ac1, #RC1, Ho⟩
  ihave Ho := (ow_from c (k := 4) (by decide)) $$ Ho
  iapply (st_bar m 4 (by decide) (dev17_eq c) (dev18_eq c) (T := owedFrom c 5) ((above_from' c (by decide)).mono (by decide))) $$ HR Hlev RP RN tp4 tn4 S01 S11 cb4 ab Ho
  iintro ⟨Ho, ab, #RB, ⟨%vn, SN⟩, ⟨%vp, SP⟩⟩
  rw [wp_ret]; imodintro
  iapply Hk
  isplitr; · iexact RC1
  isplitl [T1]; · iexact T1
  isplitl [O11]; · iexact O11
  isplitl [ac0]; · iexact ac0
  isplitl [Ho]; · iexact Ho
  isplitl [ac1]; · iexact ac1
  isplitl [ab]; · iexact ab
  isplitr; · iexact RB
  isplitr; · iexact RC0
  isplitl [O01]; · iexact O01
  isplitl [SN]; · iexists _; iexact SN
  isplitl [SP]; · iexists _; iexact SP
  iexact T0

theorem part23 (c : Dev nD) (v13 : BitVec 32) (v24 : BitVec 32) {Kt : (PUnit) → sProp 𝕄} :
    iprop(records m ∗ levAts L lv ∗ reached ER (barCell c) 5 ∗ slotP c 0 4 (V m 0 4 c) ∗ (∃ v, slotP (dst 0 c) 0 5 v) ∗ dutyTok ER (sndCell 0 4 c) 0 false ∗ dutyTok ER (rcvCell 0 4 (dst 0 c)) 0 false ∗ ow c (owedAfterSig c 4 (owedFrom c 5)) ∗ slotP c 1 4 (V m 1 4 c) ∗ (∃ v, slotP (dst 1 c) 1 5 v) ∗ dutyTok ER (sndCell 1 4 c) 0 false ∗ dutyTok ER (rcvCell 1 4 (dst 1 c)) 0 false)
      ⊢ iprop((∀ r, (ow c (owedFrom c 5) ∗ cred (tallyAt (sndCell 0 4 c) 0 N) ∗ cred (tallyAt (sndCell 1 4 c) 0 N)) -∗ Kt r)
        -∗ wp frame (wpE (defs₀ (F := F)) 𝒱₀ (c : Thread nD τ) none) Set.univ (k0_part23 (F := F) xaM (Memref.isWhole_whole _) xbM (Memref.isWhole_whole _) outM (Memref.isWhole_whole _) commM (Memref.isWhole_whole _) tmpM (Memref.isWhole_whole _) cc0_scratch2 cc0_scratch3 cc0_scratch4 c v13 v24) Kt) := by
  rw [k0_part23_eq_skeleton]; unfold k0_part23_skel
  simp only [semSignalWord, semWaitWord, Prog.lift, Prog.bind_op, Prog.bind_ret, Prog.pure_eq_ret, wp_deviceId]
  iintro ⟨#HR, #Hlev, #RB, S00, ⟨%vSN, SN⟩, ts04, tv04, Ho, S10, ⟨%vSP, SP⟩, ts14, tv14⟩ Hk
  iapply (st_send m 0 4 (by decide) (by decide) (dev19_eq c) (T := owedAfterR c 4 (owedFrom c 5)) (T' := owedAfterSig c 4 (owedFrom c 5)) rfl) $$ HR RB S00 SN ts04 tv04 Ho
  iintro ⟨cs04, Ho⟩
  iapply (st_send m 1 4 (by decide) (by decide) (dev20_eq c) (T := owedFrom c 5) (T' := owedAfterR c 4 (owedFrom c 5)) rfl) $$ HR RB S10 SP ts14 tv14 Ho
  iintro ⟨cs14, Ho⟩
  rw [wp_ret]; imodintro
  iapply Hk
  isplitl [Ho]; · iexact Ho
  isplitl [cs04]; · iexact cs04
  iexact cs14

end Cert.RingIdeal

end
-- ==== Proof.RingIdeal.PartsD.lean ====
/-
# The body, part by part (the last two gathered tiles)

Each part of the body, from what it uses to what it leaves; the words the parts pass on are arbitrary.
-/
module

public import proofs.«01_k».proof.Proof.RingIdeal.Steps

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

set_option maxHeartbeats 1000000

theorem part24 (c : Dev nD) (v2 : BitVec 32) (v24 : BitVec 32) {Kt : (Σ' (v618 : BitVec 32) (v623 : BitVec 1), BitVec 32) → sProp 𝕄} :
    iprop(records m ∗ levAts L lv ∗ cred (tallyAt (sndCell 0 4 c) 0 N) ∗ atPos ER (sndCell 0 4 c) 0 ∅ 0 ∗ ow c (owedFrom c 5) ∗ cred (tallyAt (rcvCell 0 4 c) 4 N) ∗ atPos ER (rcvCell 0 4 c) 0 ∅ 0 ∗ tmpP c 0 (tile m 0 1 c))
      ⊢ iprop((∀ r, (ow c (owedFrom c 5) ∗ tmpP c 0 (tile m 0 2 c) ∗ reached ER (barCell (src 0 c)) 5 ∗ slotP c 0 6 (V m 0 4 c) ∗ slotP c 0 5 (V m 0 5 c) ∗ semVal (sndCell 0 4 c) 0 ∗ semVal (rcvCell 0 4 c) 0) -∗ Kt r)
        -∗ wp frame (wpE (defs₀ (F := F)) 𝒱₀ (c : Thread nD τ) none) Set.univ (k0_part24 (F := F) xaM (Memref.isWhole_whole _) xbM (Memref.isWhole_whole _) outM (Memref.isWhole_whole _) commM (Memref.isWhole_whole _) tmpM (Memref.isWhole_whole _) cc0_scratch2 cc0_scratch3 cc0_scratch4 v2 v24) Kt) := by
  rw [k0_part24_eq_skeleton]; unfold k0_part24_skel
  simp only [semSignalWord, semWaitWord, Prog.lift, Prog.bind_op, Prog.bind_ret, Prog.pure_eq_ret, wp_deviceId]
  iintro ⟨#HR, #Hlev, cs04, as04, Ho, cv04, av04, T0⟩ Hk
  iapply (st_wsnd m 0 4 (by decide) (by decide) ((above_from' c (by decide)).mono (by decide)) (dma_slot 0 4)) $$ HR Hlev cs04 as04 Ho
  iintro ⟨S00, zs04, Ho⟩
  iapply (st_wrcv m 0 4 (by decide) (by decide) ((above_from' c (by decide)).mono (by decide)) (dma_slot 0 5)) $$ HR Hlev cv04 av04 Ho
  iintro ⟨S01, #RP, zv04, Ho⟩
  ihave S01 := (slot_of_eq c (V_fwd m (r := 0) (k := 4) (by decide) c).symm) $$ S01
  iapply (ld_slot 0 5) $$ S01; iintro S01
  iapply (ld_tmp 0) $$ T0; iintro T0
  iapply (st_tmp 0) $$ T0; iintro T0
  ihave T0 := (tmp_of_eq c (show k0_pay24 (V m 0 5 c) = tile m 0 2 c from rfl)) $$ T0
  rw [wp_ret]; imodintro
  iapply Hk
  isplitl [Ho]; · iexact Ho
  isplitl [T0]; · iexact T0
  isplitr; · iexact RP
  isplitl [S00]; · iexact S00
  isplitl [S01]; · iexact S01
  isplitl [zs04]; · iexact zs04
  iexact zv04

theorem part25 (c : Dev nD) (v13 : BitVec 32) (v618 : BitVec 32) (v623 : BitVec 1) (v624 : BitVec 32) {Kt : (PUnit) → sProp 𝕄} :
    iprop(records m ∗ levAts L lv ∗ reached ER (cpyCell 0 c) 2 ∗ tmpP c 0 (tile m 0 2 c) ∗ (∃ v, outP c (oblk 0 2 c) 0 v) ∗ dutyTok ER (cpyCell 0 c) 2 false ∗ cred (tallyAt (sndCell 1 4 c) 0 N) ∗ atPos ER (sndCell 1 4 c) 0 ∅ 0 ∗ ow c (owedFrom c 5) ∗ cred (tallyAt (rcvCell 1 4 c) 4 N) ∗ atPos ER (rcvCell 1 4 c) 0 ∅ 0)
      ⊢ iprop((∀ r, (ow c (owedFrom c 5) ∗ reached ER (barCell (src 1 c)) 5 ∗ slotP c 1 6 (V m 1 4 c) ∗ slotP c 1 5 (V m 1 5 c) ∗ cred (tallyAt (cpyCell 0 c) 0 NC) ∗ semVal (sndCell 1 4 c) 0 ∗ semVal (rcvCell 1 4 c) 0) -∗ Kt r)
        -∗ wp frame (wpE (defs₀ (F := F)) 𝒱₀ (c : Thread nD τ) none) Set.univ (k0_part25 (F := F) xaM (Memref.isWhole_whole _) xbM (Memref.isWhole_whole _) outM (Memref.isWhole_whole _) commM (Memref.isWhole_whole _) tmpM (Memref.isWhole_whole _) cc0_scratch2 cc0_scratch3 cc0_scratch4 c v13 v618 v623 v624) Kt) := by
  rw [k0_part25_eq_skeleton]; unfold k0_part25_skel
  simp only [semSignalWord, semWaitWord, Prog.lift, Prog.bind_op, Prog.bind_ret, Prog.pure_eq_ret, wp_deviceId]
  iintro ⟨#HR, #Hlev, #RC0, T0, ⟨%vO02, O02⟩, tc02, cs14, as14, Ho, cv14, av14⟩ Hk
  iapply (st_cpy m 0 2 (by decide) (by decide) (off6_2 c)) $$ HR RC0 T0 O02 tc02; iintro cc0
  iapply (st_wsnd m 1 4 (by decide) (by decide) ((above_from' c (by decide)).mono (by decide)) (dma_slot 1 4)) $$ HR Hlev cs14 as14 Ho
  iintro ⟨S10, zs14, Ho⟩
  iapply (st_wrcv m 1 4 (by decide) (by decide) ((above_from' c (by decide)).mono (by decide)) (dma_slot 1 5)) $$ HR Hlev cv14 av14 Ho
  iintro ⟨S11, #RN, zv14, Ho⟩
  ihave S11 := (slot_of_eq c (V_fwd m (r := 1) (k := 4) (by decide) c).symm) $$ S11
  rw [wp_ret]; imodintro
  iapply Hk
  isplitl [Ho]; · iexact Ho
  isplitr; · iexact RN
  isplitl [S10]; · iexact S10
  isplitl [S11]; · iexact S11
  isplitl [cc0]; · iexact cc0
  isplitl [zs14]; · iexact zs14
  iexact zv14

theorem part26 (c : Dev nD) (v2 : BitVec 32) {Kt : (PUnit) → sProp 𝕄} :
    iprop(records m ∗ levAts L lv ∗ slotP c 1 5 (V m 1 5 c) ∗ tmpP c 1 (tile m 1 1 c) ∗ reached ER (cpyCell 1 c) 2 ∗ (∃ v, outP c (oblk 1 2 c) 1 v) ∗ dutyTok ER (cpyCell 1 c) 2 false ∗ cred (tallyAt (cpyCell 0 c) 0 NC) ∗ atPos ER (cpyCell 0 c) 2 ∅ 0 ∗ ow c (owedFrom c 5))
      ⊢ iprop((∀ r, (slotP c 1 5 (V m 1 5 c) ∗ atPos ER (cpyCell 0 c) 3 ∅ 0 ∗ ow c (owedFrom c 5) ∗ reached ER (cpyCell 0 c) 3 ∗ outP c (oblk 0 2 c) 0 (flat (tile m 0 2 c)) ∗ tmpP c 0 (tile m 0 2 c) ∗ cred (tallyAt (cpyCell 1 c) 0 NC)) -∗ Kt r)
        -∗ wp frame (wpE (defs₀ (F := F)) 𝒱₀ (c : Thread nD τ) none) Set.univ (k0_part26 (F := F) xaM (Memref.isWhole_whole _) xbM (Memref.isWhole_whole _) outM (Memref.isWhole_whole _) commM (Memref.isWhole_whole _) tmpM (Memref.isWhole_whole _) cc0_scratch2 cc0_scratch3 cc0_scratch4 c v2) Kt) := by
  rw [k0_part26_eq_skeleton]; unfold k0_part26_skel
  simp only [semSignalWord, semWaitWord, Prog.lift, Prog.bind_op, Prog.bind_ret, Prog.pure_eq_ret, wp_deviceId]
  iintro ⟨#HR, #Hlev, S11, T1, #RC1, ⟨%vO12, O12⟩, tc12, cc0, ac0, Ho⟩ Hk
  iapply (ld_slot 1 5) $$ S11; iintro S11
  iapply (ld_tmp 1) $$ T1; iintro T1
  iapply (st_tmp 1) $$ T1; iintro T1
  ihave T1 := (tmp_of_eq c (show k0_pay25 (V m 1 5 c) = tile m 1 2 c from rfl)) $$ T1
  iapply (st_cpy m 1 2 (by decide) (by decide) (off5_2 c)) $$ HR RC1 T1 O12 tc12; iintro cc1
  iapply (st_wcpy m 0 2 (by decide) (by decide) ((above_from' c (by decide)).mono (by decide)) (dma_out _ _)) $$ HR Hlev cc0 ac0 Ho
  iintro ⟨T0, O02, ac0, #RC0, Ho⟩
  rw [wp_ret]; imodintro
  iapply Hk
  isplitl [S11]; · iexact S11
  isplitl [ac0]; · iexact ac0
  isplitl [Ho]; · iexact Ho
  isplitr; · iexact RC0
  isplitl [O02]; · iexact O02
  isplitl [T0]; · iexact T0
  iexact cc1

theorem part27 (c : Dev nD) (v13 : BitVec 32) (v24 : BitVec 32) {Kt : (PUnit) → sProp 𝕄} :
    iprop(records m ∗ levAts L lv ∗ cred (tallyAt (cpyCell 1 c) 0 NC) ∗ atPos ER (cpyCell 1 c) 2 ∅ 0 ∗ ow c (owedFrom c 5) ∗ reached ER (barCell (src 0 c)) 5 ∗ reached ER (barCell (src 1 c)) 5 ∗ dutyTok ER (barCell (prv c)) 5 true ∗ dutyTok ER (barCell (nxt c)) 5 false ∗ slotP c 0 6 (V m 0 4 c) ∗ slotP c 1 6 (V m 1 4 c) ∗ cred (tallyAt (barCell c) 5 2) ∗ atPos ER (barCell c) 5 ∅ 0 ∗ slotP c 0 5 (V m 0 5 c) ∗ dutyTok ER (sndCell 0 5 c) 0 false ∗ dutyTok ER (rcvCell 0 5 (dst 0 c)) 0 false)
      ⊢ iprop((∀ r, (atPos ER (cpyCell 1 c) 3 ∅ 0 ∗ ow c (owedAfterR c 5 (owedFrom c 6)) ∗ atPos ER (barCell c) 6 ∅ 0 ∗ reached ER (barCell c) 6 ∗ reached ER (cpyCell 1 c) 3 ∗ outP c (oblk 1 2 c) 1 (flat (tile m 1 2 c)) ∗ (∃ v, slotP (dst 1 c) 1 6 v) ∗ tmpP c 1 (tile m 1 2 c) ∗ cred (tallyAt (sndCell 0 5 c) 0 N)) -∗ Kt r)
        -∗ wp frame (wpE (defs₀ (F := F)) 𝒱₀ (c : Thread nD τ) none) Set.univ (k0_part27 (F := F) xaM (Memref.isWhole_whole _) xbM (Memref.isWhole_whole _) outM (Memref.isWhole_whole _) commM (Memref.isWhole_whole _) tmpM (Memref.isWhole_whole _) cc0_scratch2 cc0_scratch3 cc0_scratch4 c v13 v24 (SemArray.scalar (sig.barrier 0 rfl))) Kt) := by
  rw [k0_part27_eq_skeleton]; unfold k0_part27_skel
  simp only [semSignalWord, semWaitWord, Prog.lift, Prog.bind_op, Prog.bind_ret, Prog.pure_eq_ret, wp_deviceId]
  iintro ⟨#HR, #Hlev, cc1, ac1, Ho, #RP, #RN, tp5, tn5, S00, S10, cb5, ab, S01, ts05, tv05⟩ Hk
  iapply (st_wcpy m 1 2 (by decide) (by decide) ((above_from' c (by decide)).mono (by decide)) (dma_out _ _)) $$ HR Hlev cc1 ac1 Ho
  iintro ⟨T1, O12, ac1, #RC1, Ho⟩
  ihave Ho := (ow_from c (k := 5) (by decide)) $$ Ho
  iapply (st_bar m 5 (by decide) (dev21_eq c) (dev22_eq c) (T := owedFrom c 6) ((above_from' c (by decide)).mono (by decide))) $$ HR Hlev RP RN tp5 tn5 S00 S10 cb5 ab Ho
  iintro ⟨Ho, ab, #RB, ⟨%vn, SN⟩, ⟨%vp, SP⟩⟩
  iapply (st_send m 0 5 (by decide) (by decide) (dev23_eq c) (T := owedAfterR c 5 (owedFrom c 6)) (T' := owedAfterSig c 5 (owedFrom c 6)) rfl) $$ HR RB S01 SN ts05 tv05 Ho
  iintro ⟨cs05, Ho⟩
  rw [wp_ret]; imodintro
  iapply Hk
  isplitl [ac1]; · iexact ac1
  isplitl [Ho]; · iexact Ho
  isplitl [ab]; · iexact ab
  isplitr; · iexact RB
  isplitr; · iexact RC1
  isplitl [O12]; · iexact O12
  isplitl [SP]; · iexists _; iexact SP
  isplitl [T1]; · iexact T1
  iexact cs05

theorem part28 (c : Dev nD) (v24 : BitVec 32) {Kt : (PUnit) → sProp 𝕄} :
    iprop(records m ∗ levAts L lv ∗ reached ER (barCell c) 6 ∗ slotP c 1 5 (V m 1 5 c) ∗ (∃ v, slotP (dst 1 c) 1 6 v) ∗ dutyTok ER (sndCell 1 5 c) 0 false ∗ dutyTok ER (rcvCell 1 5 (dst 1 c)) 0 false ∗ ow c (owedAfterR c 5 (owedFrom c 6)) ∗ cred (tallyAt (sndCell 0 5 c) 0 N) ∗ atPos ER (sndCell 0 5 c) 0 ∅ 0 ∗ cred (tallyAt (rcvCell 0 5 c) 5 N) ∗ atPos ER (rcvCell 0 5 c) 0 ∅ 0)
      ⊢ iprop((∀ r, (ow c (owedFrom c 6) ∗ reached ER (barCell (src 0 c)) 6 ∗ slotP c 0 6 (V m 0 6 c) ∗ slotP c 0 7 (V m 0 5 c) ∗ cred (tallyAt (sndCell 1 5 c) 0 N) ∗ semVal (sndCell 0 5 c) 0 ∗ semVal (rcvCell 0 5 c) 0) -∗ Kt r)
        -∗ wp frame (wpE (defs₀ (F := F)) 𝒱₀ (c : Thread nD τ) none) Set.univ (k0_part28 (F := F) xaM (Memref.isWhole_whole _) xbM (Memref.isWhole_whole _) outM (Memref.isWhole_whole _) commM (Memref.isWhole_whole _) tmpM (Memref.isWhole_whole _) cc0_scratch2 cc0_scratch3 cc0_scratch4 c v24) Kt) := by
  rw [k0_part28_eq_skeleton]; unfold k0_part28_skel
  simp only [semSignalWord, semWaitWord, Prog.lift, Prog.bind_op, Prog.bind_ret, Prog.pure_eq_ret, wp_deviceId]
  iintro ⟨#HR, #Hlev, #RB, S11, ⟨%vSP, SP⟩, ts15, tv15, Ho, cs05, as05, cv05, av05⟩ Hk
  iapply (st_send m 1 5 (by decide) (by decide) (dev24_eq c) (T := owedFrom c 6) (T' := owedAfterR c 5 (owedFrom c 6)) rfl) $$ HR RB S11 SP ts15 tv15 Ho
  iintro ⟨cs15, Ho⟩
  iapply (st_wsnd m 0 5 (by decide) (by decide) ((above_from' c (by decide)).mono (by decide)) (dma_slot 0 5)) $$ HR Hlev cs05 as05 Ho
  iintro ⟨S01, zs05, Ho⟩
  iapply (st_wrcv m 0 5 (by decide) (by decide) ((above_from' c (by decide)).mono (by decide)) (dma_slot 0 6)) $$ HR Hlev cv05 av05 Ho
  iintro ⟨S00, #RP, zv05, Ho⟩
  ihave S00 := (slot_of_eq c (V_fwd m (r := 0) (k := 5) (by decide) c).symm) $$ S00
  rw [wp_ret]; imodintro
  iapply Hk
  isplitl [Ho]; · iexact Ho
  isplitr; · iexact RP
  isplitl [S00]; · iexact S00
  isplitl [S01]; · iexact S01
  isplitl [cs15]; · iexact cs15
  isplitl [zs05]; · iexact zs05
  iexact zv05

theorem part29 (c : Dev nD) (v2 : BitVec 32) {Kt : (PUnit) → sProp 𝕄} :
    iprop(records m ∗ levAts L lv ∗ slotP c 0 6 (V m 0 6 c) ∗ tmpP c 0 (tile m 0 2 c) ∗ reached ER (cpyCell 0 c) 3 ∗ (∃ v, outP c (oblk 0 3 c) 0 v) ∗ dutyTok ER (cpyCell 0 c) 3 false)
      ⊢ iprop((∀ r, (slotP c 0 6 (V m 0 6 c) ∗ cred (tallyAt (cpyCell 0 c) 0 NC)) -∗ Kt r)
        -∗ wp frame (wpE (defs₀ (F := F)) 𝒱₀ (c : Thread nD τ) none) Set.univ (k0_part29 (F := F) xaM (Memref.isWhole_whole _) xbM (Memref.isWhole_whole _) outM (Memref.isWhole_whole _) commM (Memref.isWhole_whole _) tmpM (Memref.isWhole_whole _) cc0_scratch2 cc0_scratch3 cc0_scratch4 c v2) Kt) := by
  rw [k0_part29_eq_skeleton]; unfold k0_part29_skel
  simp only [semSignalWord, semWaitWord, Prog.lift, Prog.bind_op, Prog.bind_ret, Prog.pure_eq_ret, wp_deviceId]
  iintro ⟨#HR, #Hlev, S00, T0, #RC0, ⟨%vO03, O03⟩, tc03⟩ Hk
  iapply (ld_slot 0 6) $$ S00; iintro S00
  iapply (ld_tmp 0) $$ T0; iintro T0
  iapply (st_tmp 0) $$ T0; iintro T0
  ihave T0 := (tmp_of_eq c (show k0_pay26 (V m 0 6 c) = tile m 0 3 c from rfl)) $$ T0
  iapply (st_cpy m 0 3 (by decide) (by decide) (off6_3 c)) $$ HR RC0 T0 O03 tc03; iintro cc0
  rw [wp_ret]; imodintro
  iapply Hk
  isplitl [S00]; · iexact S00
  iexact cc0

theorem part30 (c : Dev nD) (v2 : BitVec 32) (v13 : BitVec 32) {Kt : (BitVec 32) → sProp 𝕄} :
    iprop(records m ∗ levAts L lv ∗ cred (tallyAt (sndCell 1 5 c) 0 N) ∗ atPos ER (sndCell 1 5 c) 0 ∅ 0 ∗ ow c (owedFrom c 6) ∗ cred (tallyAt (rcvCell 1 5 c) 5 N) ∗ atPos ER (rcvCell 1 5 c) 0 ∅ 0 ∗ tmpP c 1 (tile m 1 2 c))
      ⊢ iprop((∀ r, (ow c (owedFrom c 6) ∗ tmpP c 1 (tile m 1 3 c) ∗ reached ER (barCell (src 1 c)) 6 ∗ slotP c 1 6 (V m 1 6 c) ∗ slotP c 1 7 (V m 1 5 c) ∗ semVal (sndCell 1 5 c) 0 ∗ semVal (rcvCell 1 5 c) 0) -∗ Kt r)
        -∗ wp frame (wpE (defs₀ (F := F)) 𝒱₀ (c : Thread nD τ) none) Set.univ (k0_part30 (F := F) xaM (Memref.isWhole_whole _) xbM (Memref.isWhole_whole _) outM (Memref.isWhole_whole _) commM (Memref.isWhole_whole _) tmpM (Memref.isWhole_whole _) cc0_scratch2 cc0_scratch3 cc0_scratch4 v2 v13) Kt) := by
  rw [k0_part30_eq_skeleton]; unfold k0_part30_skel
  simp only [semSignalWord, semWaitWord, Prog.lift, Prog.bind_op, Prog.bind_ret, Prog.pure_eq_ret, wp_deviceId]
  iintro ⟨#HR, #Hlev, cs15, as15, Ho, cv15, av15, T1⟩ Hk
  iapply (st_wsnd m 1 5 (by decide) (by decide) ((above_from' c (by decide)).mono (by decide)) (dma_slot 1 5)) $$ HR Hlev cs15 as15 Ho
  iintro ⟨S11, zs15, Ho⟩
  iapply (st_wrcv m 1 5 (by decide) (by decide) ((above_from' c (by decide)).mono (by decide)) (dma_slot 1 6)) $$ HR Hlev cv15 av15 Ho
  iintro ⟨S10, #RN, zv15, Ho⟩
  ihave S10 := (slot_of_eq c (V_fwd m (r := 1) (k := 5) (by decide) c).symm) $$ S10
  iapply (ld_slot 1 6) $$ S10; iintro S10
  iapply (ld_tmp 1) $$ T1; iintro T1
  iapply (st_tmp 1) $$ T1; iintro T1
  ihave T1 := (tmp_of_eq c (show k0_pay27 (V m 1 6 c) = tile m 1 3 c from rfl)) $$ T1
  rw [wp_ret]; imodintro
  iapply Hk
  isplitl [Ho]; · iexact Ho
  isplitl [T1]; · iexact T1
  isplitr; · iexact RN
  isplitl [S10]; · iexact S10
  isplitl [S11]; · iexact S11
  isplitl [zs15]; · iexact zs15
  iexact zv15

end Cert.RingIdeal

end
-- ==== Proof.RingIdeal.Body.lean ====
/-
# The whole body

The parts chained: what the body uses, and what it leaves.
-/
module

public import proofs.«01_k».proof.Proof.RingIdeal.PartsA
public import proofs.«01_k».proof.Proof.RingIdeal.PartsB
public import proofs.«01_k».proof.Proof.RingIdeal.PartsC
public import proofs.«01_k».proof.Proof.RingIdeal.PartsD

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- What device `c`'s hop `k` uses: the tokens of the duties it pays, its launch credits, its positions. -/
def hopToks (c : Dev nD) (k : ℕ) : sProp 𝕄 :=
  iprop(dutyTok ER (barCell (prv c)) k true ∗ dutyTok ER (barCell (nxt c)) k false ∗ dutyTok ER (sndCell 0 k c) 0 false
    ∗ dutyTok ER (sndCell 1 k c) 0 false ∗ dutyTok ER (rcvCell 0 k (dst 0 c)) 0 false ∗ dutyTok ER (rcvCell 1 k (dst 1 c)) 0 false)
def hopCreds (c : Dev nD) (k : ℕ) : sProp 𝕄 :=
  iprop(cred (tallyAt (barCell c) k 2) ∗ cred (tallyAt (rcvCell 0 k c) k N) ∗ cred (tallyAt (rcvCell 1 k c) k N))
def hopPos (c : Dev nD) (k : ℕ) : sProp 𝕄 :=
  iprop(atPos ER (sndCell 0 k c) 0 ∅ 0 ∗ atPos ER (sndCell 1 k c) 0 ∅ 0 ∗ atPos ER (rcvCell 0 k c) 0 ∅ 0 ∗ atPos ER (rcvCell 1 k c) 0 ∅ 0)
/-- The cells of hop `k` closed. -/
def hopZero (c : Dev nD) (k : ℕ) : sProp 𝕄 :=
  iprop(semVal (sndCell 0 k c) 0 ∗ semVal (sndCell 1 k c) 0 ∗ semVal (rcvCell 0 k c) 0 ∗ semVal (rcvCell 1 k c) 0)
def copyToks (c : Dev nD) (j : ℕ) : sProp 𝕄 :=
  iprop(dutyTok ER (cpyCell 0 c) j false ∗ dutyTok ER (cpyCell 1 c) j false)
/-- Six of something, one per hop; four, one per finished tile. -/
def six (Φ : ℕ → sProp 𝕄) : sProp 𝕄 := iprop(Φ 0 ∗ Φ 1 ∗ Φ 2 ∗ Φ 3 ∗ Φ 4 ∗ Φ 5)
def four (Φ : ℕ → sProp 𝕄) : sProp 𝕄 := iprop(Φ 0 ∗ Φ 1 ∗ Φ 2 ∗ Φ 3)
/-- The tokens, credits and positions device `c` starts with. -/
def startToks (c : Dev nD) : sProp 𝕄 := iprop(six (hopToks c) ∗ four (copyToks c))
def startCreds (c : Dev nD) : sProp 𝕄 := six (hopCreds c)
def startPos (c : Dev nD) : sProp 𝕄 :=
  iprop(six (hopPos c) ∗ atPos ER (cpyCell 0 c) 0 ∅ 0 ∗ atPos ER (cpyCell 1 c) 0 ∅ 0 ∗ atPos ER (barCell c) 0 ∅ 0)
/-- The slots and scratch tiles at some contents; the tiles of the result at some contents, and finished. -/
def anySlots (c : Dev nD) : sProp 𝕄 :=
  iprop((∃ v, slotP c 0 0 v) ∗ (∃ v, slotP c 0 1 v) ∗ (∃ v, slotP c 1 0 v) ∗ (∃ v, slotP c 1 1 v))
def anyTmps (c : Dev nD) : sProp 𝕄 := iprop((∃ v, tmpP c 0 v) ∗ (∃ v, tmpP c 1 v))
def anyOut (c : Dev nD) : sProp 𝕄 := four fun j => iprop((∃ v, outP c (oblk 0 j c) 0 v) ∗ (∃ v, outP c (oblk 1 j c) 1 v))
def doneOut (c : Dev nD) : sProp 𝕄 := four fun j => iprop(outP c (oblk 0 j c) 0 (flat (tile m 0 j c)) ∗ outP c (oblk 1 j c) 1 (flat (tile m 1 j c)))
/-- Every semaphore of the device at zero. -/
def allZero (c : Dev nD) : sProp 𝕄 :=
  iprop(six (hopZero c) ∗ semVal (cpyCell 0 c) 0 ∗ semVal (cpyCell 1 c) 0 ∗ semVal (barCell c) 0)

def bodyStart (c : Dev nD) : sProp 𝕄 :=
  iprop(startToks c ∗ startCreds c ∗ startPos c ∗ anySlots c ∗ anyTmps c ∗ anyOut c ∗ stgA m c ∗ stgB m c ∗ ow c (owedFrom c 0))
def bodyEnd (c : Dev nD) : sProp 𝕄 :=
  iprop(allZero c ∗ anySlots c ∗ anyTmps c ∗ doneOut m c ∗ stgA m c ∗ stgB m c ∗ ow c 0)

set_option maxHeartbeats 4000000 in
set_option maxRecDepth 16000 in
theorem body_run (c : Dev nD) {Kt : PUnit → sProp 𝕄} :
    iprop(records m ∗ levAts L lv ∗ bodyStart m c)
      ⊢ iprop((bodyEnd m c -∗ Kt ⟨⟩)
        -∗ wp frame (wpE (defs₀ (F := F)) 𝒱₀ (c : Thread nD τ) none) Set.univ (cc0_body (F := F) xaM (Memref.isWhole_whole _) xbM (Memref.isWhole_whole _) outM (Memref.isWhole_whole _) commM (Memref.isWhole_whole _) tmpM (Memref.isWhole_whole _) cc0_scratch2 cc0_scratch3 cc0_scratch4) Kt) := by
  rw [cc0_body_eq_skeleton]; unfold cc0_body_skel
  rw [k0_part31_eq_skeleton]; unfold k0_part31_skel
  unfold bodyStart startToks startCreds startPos anySlots anyTmps anyOut six four hopToks hopCreds hopPos copyToks
  iintro ⟨#HR, #Hlev, ⟨⟨⟨tp0, tn0, ts00, ts10, tv00, tv10⟩, ⟨tp1, tn1, ts01, ts11, tv01, tv11⟩, ⟨tp2, tn2, ts02, ts12, tv02, tv12⟩, ⟨tp3, tn3, ts03, ts13, tv03, tv13⟩, ⟨tp4, tn4, ts04, ts14, tv04, tv14⟩, ⟨tp5, tn5, ts05, ts15, tv05, tv15⟩⟩, ⟨⟨tc00, tc10⟩, ⟨tc01, tc11⟩, ⟨tc02, tc12⟩, ⟨tc03, tc13⟩⟩⟩, ⟨⟨cb0, cv00, cv10⟩, ⟨cb1, cv01, cv11⟩, ⟨cb2, cv02, cv12⟩, ⟨cb3, cv03, cv13⟩, ⟨cb4, cv04, cv14⟩, ⟨cb5, cv05, cv15⟩⟩, ⟨⟨⟨as00, as10, av00, av10⟩, ⟨as01, as11, av01, av11⟩, ⟨as02, as12, av02, av12⟩, ⟨as03, as13, av03, av13⟩, ⟨as04, as14, av04, av14⟩, ⟨as05, as15, av05, av15⟩⟩, ac0, ac1, ab⟩, ⟨S00, S01, S10, S11⟩, ⟨T0, T1⟩, ⟨⟨O00, O10⟩, ⟨O01, O11⟩, ⟨O02, O12⟩, ⟨O03, O13⟩⟩, xA, xB, Ho⟩ Hk
  ihave HbC := (known_bar m c) $$ HR
  ihave HbP := (known_bar m (src 0 c)) $$ HR
  ihave HbN := (known_bar m (src 1 c)) $$ HR
  ihave Hc0 := (known_cpy m c (r := 0) (by decide)) $$ HR
  ihave Hc1 := (known_cpy m c (r := 1) (by decide)) $$ HR
  unfold known
  icases HbC with ⟨⟨%κB, #HIB⟩, -⟩
  icases HbP with ⟨-, #RP⟩
  icases HbN with ⟨-, #RN⟩
  icases Hc0 with ⟨⟨%κ0, #HI0⟩, #RC0⟩
  icases Hc1 with ⟨⟨%κ1, #HI1⟩, #RC1⟩
  rw [wp_bind]
  -- part 1
  rw [wp_bind]
  iapply (part1 m c ) $$ [xA xB]
  · isplitr; · iexact HR
    isplitr; · iexact Hlev
    isplitl [xA]; · iexact xA
    iexact xB
  iintro %v2 %v13 %v24 ⟨xA, xB⟩
  try dsimp only
  -- part 2
  rw [wp_bind]
  iapply (part2 m c v2 v13 v24) $$ [S00 xA xB S10 tp0 tn0 S01 S11 cb0 ab Ho]
  · isplitr; · iexact HR
    isplitr; · iexact Hlev
    isplitl [S00]; · first | iexact S00 | (iexists _; iexact S00)
    isplitl [xA]; · iexact xA
    isplitl [xB]; · iexact xB
    isplitl [S10]; · first | iexact S10 | (iexists _; iexact S10)
    isplitr; · iexact RP
    isplitr; · iexact RN
    isplitl [tp0]; · iexact tp0
    isplitl [tn0]; · iexact tn0
    isplitl [S01]; · first | iexact S01 | (iexists _; iexact S01)
    isplitl [S11]; · first | iexact S11 | (iexists _; iexact S11)
    isplitl [cb0]; · iexact cb0
    isplitl [ab]; · iexact ab
    iexact Ho
  iintro %res2 ⟨S00, xA, xB, S10, ab, Ho, #RB, SN, SP⟩
  obtain ⟨v56, v57, v62⟩ := res2
  try dsimp only
  -- part 3
  rw [wp_bind]
  iapply (part3 m c v13 v24 v56 v57 v62) $$ [xA xB T0 S00 SN ts00 tv00 Ho]
  · isplitr; · iexact HR
    isplitr; · iexact Hlev
    isplitl [xA]; · iexact xA
    isplitl [xB]; · iexact xB
    isplitl [T0]; · first | iexact T0 | (iexists _; iexact T0)
    isplitr; · iexact RB
    isplitl [S00]; · iexact S00
    isplitl [SN]; · first | iexact SN | (iexists _; iexact SN)
    isplitl [ts00]; · iexact ts00
    isplitl [tv00]; · iexact tv00
    iexact Ho
  iintro %_ ⟨xA, xB, T0, Ho, cs00⟩
  try dsimp only
  -- part 4
  rw [wp_bind]
  iapply (part4 m c v2) $$ [S10 SP ts10 tv10 Ho xA xB T1]
  · isplitr; · iexact HR
    isplitr; · iexact Hlev
    isplitr; · iexact RB
    isplitl [S10]; · iexact S10
    isplitl [SP]; · first | iexact SP | (iexists _; iexact SP)
    isplitl [ts10]; · iexact ts10
    isplitl [tv10]; · iexact tv10
    isplitl [Ho]; · iexact Ho
    isplitl [xA]; · iexact xA
    isplitl [xB]; · iexact xB
    first | iexact T1 | (iexists _; iexact T1)
  iintro %_ ⟨Ho, xA, xB, T1, cs10⟩
  try dsimp only
  -- part 5
  rw [wp_bind]
  iapply (part5 m c v24) $$ [cs00 as00 Ho cv00 av00 T0]
  · isplitr; · iexact HR
    isplitr; · iexact Hlev
    isplitl [cs00]; · iexact cs00
    isplitl [as00]; · iexact as00
    isplitl [Ho]; · iexact Ho
    isplitl [cv00]; · iexact cv00
    isplitl [av00]; · iexact av00
    iexact T0
  iintro %c2_i32_133 ⟨Ho, T0, #RP, S00, S01, zs00, zv00⟩
  try dsimp only
  -- part 6
  rw [wp_bind]
  iapply (part6 m c v2 c2_i32_133) $$ [xA xB T0 cs10 as10 Ho]
  · isplitr; · iexact HR
    isplitr; · iexact Hlev
    isplitl [xA]; · iexact xA
    isplitl [xB]; · iexact xB
    isplitl [T0]; · iexact T0
    isplitl [cs10]; · iexact cs10
    isplitl [as10]; · iexact as10
    iexact Ho
  iintro %_ ⟨xA, xB, T0, Ho, S10, zs10⟩
  try dsimp only
  -- part 7
  rw [wp_bind]
  iapply (part7 m c v13 v24) $$ [cv10 av10 Ho T1 tp1 tn1 S00 S10 cb1 ab]
  · isplitr; · iexact HR
    isplitr; · iexact Hlev
    isplitl [cv10]; · iexact cv10
    isplitl [av10]; · iexact av10
    isplitl [Ho]; · iexact Ho
    isplitl [T1]; · iexact T1
    isplitr; · iexact RP
    isplitl [tp1]; · iexact tp1
    isplitl [tn1]; · iexact tn1
    isplitl [S00]; · iexact S00
    isplitl [S10]; · iexact S10
    isplitl [cb1]; · iexact cb1
    iexact ab
  iintro %_ ⟨Ho, T1, ab, #RB, #RN, S11, SN, SP, zv10⟩
  try dsimp only
  -- part 8
  rw [wp_bind]
  iapply (part8 m c v2 v13 v24) $$ [S01 SN ts01 tv01 Ho S11 SP ts11 tv11]
  · isplitr; · iexact HR
    isplitr; · iexact Hlev
    isplitr; · iexact RB
    isplitl [S01]; · iexact S01
    isplitl [SN]; · first | iexact SN | (iexists _; iexact SN)
    isplitl [ts01]; · iexact ts01
    isplitl [tv01]; · iexact tv01
    isplitl [Ho]; · iexact Ho
    isplitl [S11]; · iexact S11
    isplitl [SP]; · first | iexact SP | (iexists _; iexact SP)
    isplitl [ts11]; · iexact ts11
    iexact tv11
  iintro %res8 ⟨Ho, cs01, cs11⟩
  obtain ⟨v217, v218⟩ := res8
  try dsimp only
  -- part 9
  rw [wp_bind]
  iapply (part9 m c v217 v218) $$ [xA xB T1 cs01 as01 Ho]
  · isplitr; · iexact HR
    isplitr; · iexact Hlev
    isplitl [xA]; · iexact xA
    isplitl [xB]; · iexact xB
    isplitl [T1]; · iexact T1
    isplitl [cs01]; · iexact cs01
    isplitl [as01]; · iexact as01
    iexact Ho
  iintro %c1_i32_262 ⟨xA, xB, T1, Ho, S01, zs01⟩
  try dsimp only
  -- part 10
  rw [wp_bind]
  iapply (part10 m c v2 v24 c1_i32_262) $$ [cv01 av01 Ho T0]
  · isplitr; · iexact HR
    isplitr; · iexact Hlev
    isplitl [cv01]; · iexact cv01
    isplitl [av01]; · iexact av01
    isplitl [Ho]; · iexact Ho
    iexact T0
  iintro %v274 ⟨Ho, T0, #RP, S00, zv01⟩
  try dsimp only
  -- part 11
  rw [wp_bind]
  iapply (part11 m c v13 v274) $$ [xA xB T0 cs11 as11 Ho cv11 av11]
  · isplitr; · iexact HR
    isplitr; · iexact Hlev
    isplitl [xA]; · iexact xA
    isplitl [xB]; · iexact xB
    isplitl [T0]; · iexact T0
    isplitl [cs11]; · iexact cs11
    isplitl [as11]; · iexact as11
    isplitl [Ho]; · iexact Ho
    isplitl [cv11]; · iexact cv11
    iexact av11
  iintro %_ ⟨xA, xB, T0, Ho, #RN, S10, S11, zs11, zv11⟩
  try dsimp only
  -- part 12
  rw [wp_bind]
  iapply (part12 m c v13 v24) $$ [S10 T1 tp2 tn2 S01 S11 cb2 ab Ho]
  · isplitr; · iexact HR
    isplitr; · iexact Hlev
    isplitl [S10]; · iexact S10
    isplitl [T1]; · iexact T1
    isplitr; · iexact RP
    isplitr; · iexact RN
    isplitl [tp2]; · iexact tp2
    isplitl [tn2]; · iexact tn2
    isplitl [S01]; · iexact S01
    isplitl [S11]; · iexact S11
    isplitl [cb2]; · iexact cb2
    isplitl [ab]; · iexact ab
    iexact Ho
  iintro %_ ⟨S10, T1, ab, Ho, #RB, SN, SP⟩
  try dsimp only
  -- part 13
  rw [wp_bind]
  iapply (part13 m c v2 v13) $$ [S00 SN ts02 tv02 Ho S10 SP ts12 tv12 xA xB]
  · isplitr; · iexact HR
    isplitr; · iexact Hlev
    isplitr; · iexact RB
    isplitl [S00]; · iexact S00
    isplitl [SN]; · first | iexact SN | (iexists _; iexact SN)
    isplitl [ts02]; · iexact ts02
    isplitl [tv02]; · iexact tv02
    isplitl [Ho]; · iexact Ho
    isplitl [S10]; · iexact S10
    isplitl [SP]; · first | iexact SP | (iexists _; iexact SP)
    isplitl [ts12]; · iexact ts12
    isplitl [tv12]; · iexact tv12
    isplitl [xA]; · iexact xA
    iexact xB
  iintro  ⟨Ho, xA, xB, cs02, cs12⟩
  try dsimp only
  -- part 14
  rw [wp_bind]
  iapply (part14 m c v24) $$ [T1 cs02 as02 Ho cv02 av02]
  · isplitr; · iexact HR
    isplitr; · iexact Hlev
    isplitl [T1]; · iexact T1
    isplitl [cs02]; · iexact cs02
    isplitl [as02]; · iexact as02
    isplitl [Ho]; · iexact Ho
    isplitl [cv02]; · iexact cv02
    iexact av02
  iintro  ⟨T1, Ho, #RP, S00, S01, zs02, zv02⟩
  try dsimp only
  -- part 15
  rw [wp_bind]
  iapply (part15 m c v13) $$ [T0 S01 cs12 as12 Ho cv12 av12]
  · isplitr; · iexact HR
    isplitr; · iexact Hlev
    isplitl [T0]; · iexact T0
    isplitl [S01]; · iexact S01
    isplitl [cs12]; · iexact cs12
    isplitl [as12]; · iexact as12
    isplitl [Ho]; · iexact Ho
    isplitl [cv12]; · iexact cv12
    iexact av12
  iintro %_ ⟨T0, S01, Ho, #RN, S10, S11, zs12, zv12⟩
  try dsimp only
  -- part 16
  rw [wp_bind]
  iapply (part16 m c v2) $$ [S11 T1 S01]
  · isplitr; · iexact HR
    isplitr; · iexact Hlev
    isplitl [S11]; · iexact S11
    isplitl [T1]; · iexact T1
    iexact S01
  iintro %v413 %v424 ⟨S11, T1, S01⟩
  try dsimp only
  -- part 17
  rw [wp_bind]
  iapply (part17 m c v413 v424) $$ [T0 S11 T1 O00 tc00 O10 tc10]
  · isplitr; · iexact HR
    isplitr; · iexact Hlev
    isplitl [T0]; · iexact T0
    isplitl [S11]; · iexact S11
    isplitl [T1]; · iexact T1
    isplitr; · iexact RC0
    isplitl [O00]; · first | iexact O00 | (iexists _; iexact O00)
    isplitl [tc00]; · iexact tc00
    isplitr; · iexact RC1
    isplitl [O10]; · first | iexact O10 | (iexists _; iexact O10)
    iexact tc10
  iintro %_ ⟨S11, cc0, cc1⟩
  try dsimp only
  -- part 18
  rw [wp_bind]
  iapply (part18 m c v13 v24) $$ [cc0 ac0 Ho cc1 ac1 tp3 tn3 S00 S10 cb3 ab S01 ts03 tv03]
  · isplitr; · iexact HR
    isplitr; · iexact Hlev
    isplitl [cc0]; · iexact cc0
    isplitl [ac0]; · iexact ac0
    isplitl [Ho]; · iexact Ho
    isplitl [cc1]; · iexact cc1
    isplitl [ac1]; · iexact ac1
    isplitr; · iexact RP
    isplitr; · iexact RN
    isplitl [tp3]; · iexact tp3
    isplitl [tn3]; · iexact tn3
    isplitl [S00]; · iexact S00
    isplitl [S10]; · iexact S10
    isplitl [cb3]; · iexact cb3
    isplitl [ab]; · iexact ab
    isplitl [S01]; · iexact S01
    isplitl [ts03]; · iexact ts03
    iexact tv03
  iintro %_ ⟨ac0, Ho, ac1, ab, #RB, #RC0, #RC1, O00, O10, SP, T0, T1, cs03⟩
  try dsimp only
  -- part 19
  rw [wp_bind]
  iapply (part19 m c v13 v24) $$ [S11 SP ts13 tv13 Ho cs03 as03]
  · isplitr; · iexact HR
    isplitr; · iexact Hlev
    isplitr; · iexact RB
    isplitl [S11]; · iexact S11
    isplitl [SP]; · first | iexact SP | (iexists _; iexact SP)
    isplitl [ts13]; · iexact ts13
    isplitl [tv13]; · iexact tv13
    isplitl [Ho]; · iexact Ho
    isplitl [cs03]; · iexact cs03
    iexact as03
  iintro %_ ⟨Ho, S01, cs13, zs03⟩
  try dsimp only
  -- part 20
  rw [wp_bind]
  iapply (part20 m c v2) $$ [cv03 av03 Ho T0 O01 tc01]
  · isplitr; · iexact HR
    isplitr; · iexact Hlev
    isplitl [cv03]; · iexact cv03
    isplitl [av03]; · iexact av03
    isplitl [Ho]; · iexact Ho
    isplitl [T0]; · iexact T0
    isplitr; · iexact RC0
    isplitl [O01]; · first | iexact O01 | (iexists _; iexact O01)
    iexact tc01
  iintro %_ ⟨Ho, #RP, S00, cc0, zv03⟩
  try dsimp only
  -- part 21
  rw [wp_bind]
  iapply (part21 m c v2 v13) $$ [cs13 as13 Ho cv13 av13 T1]
  · isplitr; · iexact HR
    isplitr; · iexact Hlev
    isplitl [cs13]; · iexact cs13
    isplitl [as13]; · iexact as13
    isplitl [Ho]; · iexact Ho
    isplitl [cv13]; · iexact cv13
    isplitl [av13]; · iexact av13
    iexact T1
  iintro %res21 ⟨Ho, T1, #RN, S10, S11, zs13, zv13⟩
  obtain ⟨v545, v546, v547, v548, v549⟩ := res21
  try dsimp only
  -- part 22
  rw [wp_bind]
  iapply (part22 m c v13 v24 v545 v546 v547 v548 v549) $$ [T1 O11 tc11 cc0 ac0 Ho ac1 tp4 tn4 S01 S11 cb4 ab]
  · isplitr; · iexact HR
    isplitr; · iexact Hlev
    isplitr; · iexact RC1
    isplitl [T1]; · iexact T1
    isplitl [O11]; · first | iexact O11 | (iexists _; iexact O11)
    isplitl [tc11]; · iexact tc11
    isplitl [cc0]; · iexact cc0
    isplitl [ac0]; · iexact ac0
    isplitl [Ho]; · iexact Ho
    isplitl [ac1]; · iexact ac1
    isplitr; · iexact RP
    isplitr; · iexact RN
    isplitl [tp4]; · iexact tp4
    isplitl [tn4]; · iexact tn4
    isplitl [S01]; · iexact S01
    isplitl [S11]; · iexact S11
    isplitl [cb4]; · iexact cb4
    iexact ab
  iintro %_ ⟨#RC1, T1, O11, ac0, Ho, ac1, ab, #RB, #RC0, O01, SN, SP, T0⟩
  try dsimp only
  -- part 23
  rw [wp_bind]
  iapply (part23 m c v13 v24) $$ [S00 SN ts04 tv04 Ho S10 SP ts14 tv14]
  · isplitr; · iexact HR
    isplitr; · iexact Hlev
    isplitr; · iexact RB
    isplitl [S00]; · iexact S00
    isplitl [SN]; · first | iexact SN | (iexists _; iexact SN)
    isplitl [ts04]; · iexact ts04
    isplitl [tv04]; · iexact tv04
    isplitl [Ho]; · iexact Ho
    isplitl [S10]; · iexact S10
    isplitl [SP]; · first | iexact SP | (iexists _; iexact SP)
    isplitl [ts14]; · iexact ts14
    iexact tv14
  iintro %_ ⟨Ho, cs04, cs14⟩
  try dsimp only
  -- part 24
  rw [wp_bind]
  iapply (part24 m c v2 v24) $$ [cs04 as04 Ho cv04 av04 T0]
  · isplitr; · iexact HR
    isplitr; · iexact Hlev
    isplitl [cs04]; · iexact cs04
    isplitl [as04]; · iexact as04
    isplitl [Ho]; · iexact Ho
    isplitl [cv04]; · iexact cv04
    isplitl [av04]; · iexact av04
    iexact T0
  iintro %res24 ⟨Ho, T0, #RP, S00, S01, zs04, zv04⟩
  obtain ⟨v618, v623, v624⟩ := res24
  try dsimp only
  -- part 25
  rw [wp_bind]
  iapply (part25 m c v13 v618 v623 v624) $$ [T0 O02 tc02 cs14 as14 Ho cv14 av14]
  · isplitr; · iexact HR
    isplitr; · iexact Hlev
    isplitr; · iexact RC0
    isplitl [T0]; · iexact T0
    isplitl [O02]; · first | iexact O02 | (iexists _; iexact O02)
    isplitl [tc02]; · iexact tc02
    isplitl [cs14]; · iexact cs14
    isplitl [as14]; · iexact as14
    isplitl [Ho]; · iexact Ho
    isplitl [cv14]; · iexact cv14
    iexact av14
  iintro %_ ⟨Ho, #RN, S10, S11, cc0, zs14, zv14⟩
  try dsimp only
  -- part 26
  rw [wp_bind]
  iapply (part26 m c v2) $$ [S11 T1 O12 tc12 cc0 ac0 Ho]
  · isplitr; · iexact HR
    isplitr; · iexact Hlev
    isplitl [S11]; · iexact S11
    isplitl [T1]; · iexact T1
    isplitr; · iexact RC1
    isplitl [O12]; · first | iexact O12 | (iexists _; iexact O12)
    isplitl [tc12]; · iexact tc12
    isplitl [cc0]; · iexact cc0
    isplitl [ac0]; · iexact ac0
    iexact Ho
  iintro %_ ⟨S11, ac0, Ho, #RC0, O02, T0, cc1⟩
  try dsimp only
  -- part 27
  rw [wp_bind]
  iapply (part27 m c v13 v24) $$ [cc1 ac1 Ho tp5 tn5 S00 S10 cb5 ab S01 ts05 tv05]
  · isplitr; · iexact HR
    isplitr; · iexact Hlev
    isplitl [cc1]; · iexact cc1
    isplitl [ac1]; · iexact ac1
    isplitl [Ho]; · iexact Ho
    isplitr; · iexact RP
    isplitr; · iexact RN
    isplitl [tp5]; · iexact tp5
    isplitl [tn5]; · iexact tn5
    isplitl [S00]; · iexact S00
    isplitl [S10]; · iexact S10
    isplitl [cb5]; · iexact cb5
    isplitl [ab]; · iexact ab
    isplitl [S01]; · iexact S01
    isplitl [ts05]; · iexact ts05
    iexact tv05
  iintro %_ ⟨ac1, Ho, ab, #RB, #RC1, O12, SP, T1, cs05⟩
  try dsimp only
  -- part 28
  rw [wp_bind]
  iapply (part28 m c v24) $$ [S11 SP ts15 tv15 Ho cs05 as05 cv05 av05]
  · isplitr; · iexact HR
    isplitr; · iexact Hlev
    isplitr; · iexact RB
    isplitl [S11]; · iexact S11
    isplitl [SP]; · first | iexact SP | (iexists _; iexact SP)
    isplitl [ts15]; · iexact ts15
    isplitl [tv15]; · iexact tv15
    isplitl [Ho]; · iexact Ho
    isplitl [cs05]; · iexact cs05
    isplitl [as05]; · iexact as05
    isplitl [cv05]; · iexact cv05
    iexact av05
  iintro %_ ⟨Ho, #RP, S00, S01, cs15, zs05, zv05⟩
  try dsimp only
  -- part 29
  rw [wp_bind]
  iapply (part29 m c v2) $$ [S00 T0 O03 tc03]
  · isplitr; · iexact HR
    isplitr; · iexact Hlev
    isplitl [S00]; · iexact S00
    isplitl [T0]; · iexact T0
    isplitr; · iexact RC0
    isplitl [O03]; · first | iexact O03 | (iexists _; iexact O03)
    iexact tc03
  iintro %_ ⟨S00, cc0⟩
  try dsimp only
  -- part 30
  rw [wp_bind]
  iapply (part30 m c v2 v13) $$ [cs15 as15 Ho cv15 av15 T1]
  · isplitr; · iexact HR
    isplitr; · iexact Hlev
    isplitl [cs15]; · iexact cs15
    isplitl [as15]; · iexact as15
    isplitl [Ho]; · iexact Ho
    isplitl [cv15]; · iexact cv15
    isplitl [av15]; · iexact av15
    iexact T1
  iintro %v774 ⟨Ho, T1, #RN, S10, S11, zs15, zv15⟩
  try dsimp only
  -- the last copy and the last two waits
  simp only [Prog.lift, Prog.bind_op, Prog.bind_ret, Prog.pure_eq_ret]
  icases O13 with ⟨%vO13, O13⟩
  iapply (st_cpy m 1 3 (by decide) (by decide) (off5_3 c)) $$ HR RC1 T1 O13 tc13; iintro cc1
  iapply (st_wcpy m 0 3 (by decide) (by decide) ((above_from' c (by decide)).mono (by decide)) (dma_out _ _)) $$ HR Hlev cc0 ac0 Ho
  iintro ⟨T0, O03, ac0, #RC0, Ho⟩
  rw [wp_ret]; imodintro
  iapply (st_wcpy m 1 3 (by decide) (by decide) ((above_from' c (by decide)).mono (by decide)) (dma_out _ _)) $$ HR Hlev cc1 ac1 Ho
  iintro ⟨T1, O13, ac1, #RC1, Ho⟩
  imod (Rounds.cell_close ER (ringRd m) (Set.mem_univ κB) (fun h => h) (R := 6) (late_bar m c)) $$ [ab] with zb
  · isplitr; · iexact HIB
    iexact ab
  imod (Rounds.cell_close ER (ringRd m) (Set.mem_univ κ0) (fun h => h) (R := 4) (late_cpy m c (r := 0) (by decide))) $$ [ac0] with z0
  · isplitr; · iexact HI0
    iexact ac0
  imod (Rounds.cell_close ER (ringRd m) (Set.mem_univ κ1) (fun h => h) (R := 4) (late_cpy m c (r := 1) (by decide))) $$ [ac1] with z1
  · isplitr; · iexact HI1
    iexact ac1
  rw [wp_ret]; imodintro
  iapply Hk
  unfold bodyEnd allZero anySlots anyTmps doneOut six four hopZero
  isplitl [zs00 zs10 zv00 zv10 zs01 zs11 zv01 zv11 zs02 zs12 zv02 zv12 zs03 zs13 zv03 zv13 zs04 zs14 zv04 zv14 zs05 zs15 zv05 zv15 z0 z1 zb]
  · isplitl [zs00 zs10 zv00 zv10 zs01 zs11 zv01 zv11 zs02 zs12 zv02 zv12 zs03 zs13 zv03 zv13 zs04 zs14 zv04 zv14 zs05 zs15 zv05 zv15]
    · isplitl [zs00 zs10 zv00 zv10]
      · isplitl [zs00]
        · iexact zs00
        isplitl [zs10]
        · iexact zs10
        isplitl [zv00]
        · iexact zv00
        iexact zv10
      isplitl [zs01 zs11 zv01 zv11]
      · isplitl [zs01]
        · iexact zs01
        isplitl [zs11]
        · iexact zs11
        isplitl [zv01]
        · iexact zv01
        iexact zv11
      isplitl [zs02 zs12 zv02 zv12]
      · isplitl [zs02]
        · iexact zs02
        isplitl [zs12]
        · iexact zs12
        isplitl [zv02]
        · iexact zv02
        iexact zv12
      isplitl [zs03 zs13 zv03 zv13]
      · isplitl [zs03]
        · iexact zs03
        isplitl [zs13]
        · iexact zs13
        isplitl [zv03]
        · iexact zv03
        iexact zv13
      isplitl [zs04 zs14 zv04 zv14]
      · isplitl [zs04]
        · iexact zs04
        isplitl [zs14]
        · iexact zs14
        isplitl [zv04]
        · iexact zv04
        iexact zv14
      isplitl [zs05]
      · iexact zs05
      isplitl [zs15]
      · iexact zs15
      isplitl [zv05]
      · iexact zv05
      iexact zv15
    isplitl [z0]
    · iexact z0
    isplitl [z1]
    · iexact z1
    iexact zb
  isplitl [S00 S01 S10 S11]
  · isplitl [S00]
    · iexists _; iapply (Entails.of_eq ((slot_par c 0 4 _).trans ((slot_par c 0 2 _).trans (slot_par c 0 0 _)))); iexact S00
    isplitl [S01]
    · iexists _; iapply (Entails.of_eq ((slot_par c 0 5 _).trans ((slot_par c 0 3 _).trans (slot_par c 0 1 _)))); iexact S01
    isplitl [S10]
    · iexists _; iapply (Entails.of_eq ((slot_par c 1 4 _).trans ((slot_par c 1 2 _).trans (slot_par c 1 0 _)))); iexact S10
    iexists _; iapply (Entails.of_eq ((slot_par c 1 5 _).trans ((slot_par c 1 3 _).trans (slot_par c 1 1 _)))); iexact S11
  isplitl [T0 T1]
  · isplitl [T0]
    · iexists _; iexact T0
    iexists _; iexact T1
  isplitl [O00 O10 O01 O11 O02 O12 O03 O13]
  · isplitl [O00 O10]
    · isplitl [O00]
      · iexact O00
      iexact O10
    isplitl [O01 O11]
    · isplitl [O01]
      · iexact O01
      iexact O11
    isplitl [O02 O12]
    · isplitl [O02]
      · iexact O02
      iexact O12
    isplitl [O03]
    · iexact O03
    iexact O13
  isplitl [xA]
  · iexact xA
  isplitl [xB]
  · iexact xB
  iexact Ho

end Cert.RingIdeal

end
-- ==== Proof.RingIdeal.Deal.lean ====
/-
# What the launch deals

The launch makes one round state per cell and one token per duty; each device gets its own positions, the tokens of the duties
it pays (listed by payer, so that nothing has to be moved around the ring) and the launch credit of its waits. The buffers are
cut into slots, scratch tiles and tiles of the result, and the first two are put together again at the end.
-/
module

public import proofs.«01_k».proof.Proof.RingIdeal.Body
public import Idealize.ShloMosaic.Lib.Ring

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Finite families -/

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin2 (Φ : Fin 2 → sProp 𝕄) : bigSep Finset.univ Φ = iprop(Φ 0 ∗ Φ 1) :=
  bigSep_univ_eq_bigSepL [0, 1] (by decide) (by decide) Φ
theorem bigSep_unit (Φ : Unit → sProp 𝕄) : bigSep Finset.univ Φ = Φ () :=
  bigSep_univ_eq_bigSepL [()] (by decide) (by decide) Φ

/-- Something of each of a device's own semaphores, hop by hop; -/
def ownChain (Φ : SemLoc sig → sProp 𝕄) : sProp 𝕄 :=
  iprop((six fun k => iprop(Φ (.dma (sndS 0 k)) ∗ Φ (.dma (sndS 1 k)) ∗ Φ (.dma (rcvS 0 k)) ∗ Φ (.dma (rcvS 1 k))))
    ∗ Φ (.dma (cpyS 0)) ∗ Φ (.dma (cpyS 1)))
theorem own_expand (Φ : SemLoc sig → sProp 𝕄) : (bigSep Finset.univ fun i : OwnIx => Φ (osem i)) = ownChain Φ := by
  rw [bigSep_univ_sum, bigSep_univ_prod, bigSep_fin6, bigSep_fin2]
  simp only [bigSep_fin4]
  rfl
/-- and of each of its cells. -/
theorem cell_expand (Φ : SemLoc sig → sProp 𝕄) : (bigSep Finset.univ fun i : CellIx => Φ (csem i)) = iprop(ownChain Φ ∗ Φ (.reg barS)) := by
  rw [bigSep_univ_sum, ← own_expand, bigSep_unit]
  rfl

theorem pos_expand (c : Dev nD) : (bigSep Finset.univ fun i : CellIx => (atPos ER (kcell (c, i)) 0 ∅ 0 : sProp 𝕄)) ⊢ startPos c := by
  refine (Entails.of_eq (cell_expand fun sm => atPos ER ((c : Thread nD τ), sm) 0 ∅ 0)).trans ?_
  unfold ownChain startPos
  iintro ⟨⟨H, H0, H1⟩, HB⟩
  isplitl [H]; · iexact H
  isplitl [H0]; · iexact H0
  isplitl [H1]; · iexact H1
  iexact HB

/-! ## The cells and the tokens -/

theorem osem_injective : Function.Injective osem := by
  have h : ∀ a b : OwnIx, osem a = osem b → a = b := by decide +kernel
  exact fun a b => h a b
theorem csem_injective : Function.Injective csem := by
  intro a b h
  match a, b, h with
  | .inl a, .inl b, h => exact congrArg Sum.inl (osem_injective h)
  | .inr (), .inr (), _ => rfl
  | .inl (.inl (k, x)), .inr (), h => exact absurd h (by fin_cases x <;> exact fun h => by cases h)
  | .inl (.inr r), .inr (), h => exact absurd h (fun h => by cases h)
  | .inr (), .inl (.inl (k, x)), h => exact absurd h (by fin_cases x <;> exact fun h => by cases h)
  | .inr (), .inl (.inr r), h => exact absurd h (fun h => by cases h)
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- The duties a device pays: six per hop, two per finished tile. -/
abbrev TokIx : Type := (Fin 6 × Fin 6) ⊕ (Fin 4 × Fin 2)
/-- On which device's cell device `d` pays a duty, -/
def payTo : TokIx → Dev nD → Dev nD
  | .inl (_, 0) => prv | .inl (_, 1) => nxt | .inl (_, 2) => id | .inl (_, 3) => id | .inl (_, 4) => nxt | .inl (_, 5) => prv
  | .inr _ => id
/-- and which duty of which semaphore. -/
def tokSem : TokIx → SemLoc sig × ℕ × Bool
  | .inl (k, 0) => (.reg barS, k.val, true) | .inl (k, 1) => (.reg barS, k.val, false)
  | .inl (k, 2) => (.dma (sndS 0 k.val), 0, false) | .inl (k, 3) => (.dma (sndS 1 k.val), 0, false)
  | .inl (k, 4) => (.dma (rcvS 0 k.val), 0, false) | .inl (k, 5) => (.dma (rcvS 1 k.val), 0, false)
  | .inr (j, r) => (.dma (cpyS r.val), j.val, false)
def tokOf (x : Dev nD × TokIx) : GSem nD τ sig × ℕ × Bool :=
  (((payTo x.2 x.1 : Thread nD τ), (tokSem x.2).1), (tokSem x.2).2)

theorem payTo_injective : ∀ (i : TokIx) (d d' : Dev nD), payTo i d = payTo i d' → d = d' := by decide +kernel
theorem tokSem_injective : ∀ i j : TokIx, tokSem i = tokSem j → i = j := by decide +kernel
theorem tokOf_injective : Function.Injective tokOf := by
  rintro ⟨d, i⟩ ⟨d', i'⟩ h
  have h1 : tokSem i = tokSem i' := congrArg (fun x : GSem nD τ sig × ℕ × Bool => (x.1.2, x.2)) h
  have h2 := tokSem_injective i i' h1
  subst h2
  rw [payTo_injective i d d' (congrArg (fun x : GSem nD τ sig × ℕ × Bool => x.1.1.1) h)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

theorem toks_expand (c : Dev nD) :
    (bigSep Finset.univ fun i : TokIx => (dutyTok ER (tokOf (c, i)).1 (tokOf (c, i)).2.1 (tokOf (c, i)).2.2 : sProp 𝕄)) = startToks c := by
  rw [bigSep_univ_sum, bigSep_univ_prod, bigSep_univ_prod]
  simp only [bigSep_fin6, bigSep_fin4, bigSep_fin2]
  rfl

/-- What the launch element deals device `c`, and what the global step makes of it. -/
def G (c : Dev nD) : sProp 𝕄 :=
  iprop((bigSep Finset.univ fun i : CellIx => roundState ER (ringRd m) (kcell (c, i)) 0)
    ∗ (bigSep Finset.univ fun i : CellIx => reached ER (kcell (c, i)) 0)
    ∗ (bigSep Finset.univ fun i : CellIx => atPos ER (kcell (c, i)) 0 ∅ 0) ∗ startToks c)
def G' (c : Dev nD) : sProp 𝕄 := iprop(records m ∗ startPos c ∗ startToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CellIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => startToks c := by
    unfold ringToks; rw [bigSep_map, bigSep_univ_prod]
    exact bigSep_congr fun c _ => toks_expand c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem ownSems0_eq (c : Dev nD) : (Pipeline.ownSems0 (Ix := ℕ) (Name := ℕ) (U := UU) (Lvl := ℕ) (Val := Elt F) (τ := τ) osem c : sProp 𝕄)
    = ownChain fun sm => semVal ((c : Thread nD τ), sm) 0 := by
  unfold Pipeline.ownSems0
  exact own_expand fun sm => semVal ((c : Thread nD τ), sm) 0
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      = (bigSep Finset.univ fun i : CellIx => semVal (kcell (c, i)) 0 : sProp 𝕄) := by
  rw [ownSems0_eq, unscopedSems0_eq]
  exact (cell_expand fun sm => semVal ((c : Thread nD τ), sm) 0).symm

/-- All of a device's cells closed. -/
theorem allZero_elim (c : Dev nD) : (allZero c : sProp 𝕄) ⊢ iprop(Pipeline.ownSems0 (Ix := ℕ) (Name := ℕ) (U := UU) (Lvl := ℕ) (Val := Elt F) (τ := τ) osem c ∗ unscopedSems0 c) := by
  rw [ownSems0_eq, unscopedSems0_eq]
  unfold allZero ownChain
  iintro ⟨H, H0, H1, HB⟩
  isplitr [HB]; swap; · iexact HB
  isplitl [H]; · iexact H
  isplitl [H0]; · iexact H0
  iexact H1

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun i : CellIx => known m (kcell (c, i))) ∗ startPos c ∗ startToks c) := by
  unfold G
  iintro ⟨Hos, Hus, Hst, Hr, Hat, Htok⟩
  ihave Hv := (Entails.of_eq (sems0_eq (F := F) c)) $$ [Hos Hus]
  · isplitl [Hos] <;> iassumption
  imod (show iprop((bigSep Finset.univ fun i : CellIx => semVal (kcell (c, i)) 0) ∗ bigSep Finset.univ fun i : CellIx => roundState ER (ringRd m) (kcell (c, i)) 0)
      ⊢ (|={Set.univ}=> bigSep Finset.univ fun i => iprop(∃ κ : ℕ, cellInv ER (ringRd m) κ (kcell (c, i))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv Hr]
  · unfold known
    rw [bigSep_sep']
    isplitl [Hinv] <;> iassumption
  isplitl [Hat]; · iapply (pos_expand c); iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CellIx => known m (kcell (c, i))) ∗ startPos c ∗ startToks c) : sProp 𝕄)
      ⊢ bigSep Finset.univ (G' m) := by
  rw [bigSep_sep', ← bigSep_univ_prod (fun x : Dev nD × CellIx => known m (kcell x))]
  exact bigSep_with_persistent (R := records m) fun c _ => BI.Entails.refl _

/-- The global step: the own and the unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- One hop's dues give one hop's credits. -/
theorem creds_hop (c : Dev nD) (k : ℕ) (T : Dev nD → CellTallies nD τ sig ℕ) :
    (Pipeline.launchCred (fun d => owedHop d k (T d)) c : sProp 𝕄) ⊢ iprop(hopCreds c k ∗ Pipeline.launchCred T c) := by
  unfold owedHop owedAfterL owedAfterSig owedAfterR
  rw [Pipeline.launchCred_add, Pipeline.launchCred_add, Pipeline.launchCred_add, Pipeline.launchCred_add]
  iintro ⟨⟨⟨⟨HT, H1⟩, H0⟩, HN⟩, HP⟩
  ihave H1 := (Pipeline.launchCred_tallyAt (.dma (rcvS 1 k)) prv nxt prv_nxt nxt_prv k N c) $$ H1
  ihave H0 := (Pipeline.launchCred_tallyAt (.dma (rcvS 0 k)) nxt prv nxt_prv prv_nxt k N c) $$ H0
  ihave HN := (Pipeline.launchCred_tallyAt (.reg barS) nxt prv nxt_prv prv_nxt k 1 c) $$ HN
  ihave HP := (Pipeline.launchCred_tallyAt (.reg barS) prv nxt prv_nxt nxt_prv k 1 c) $$ HP
  unfold hopCreds
  isplitr [HT]
  · isplitl [HN HP]
    · rw [show (tallyAt (barCell c) k 2 : CellTallies nD τ sig ℕ) = tallyAt (barCell c) k 1 + tallyAt (barCell c) k 1 from (tallyAt_add (barCell c) k 1 1).symm]
      iapply (cred_add _ _).2
      isplitl [HN]; · iexact HN
      iexact HP
    isplitl [H0]; · iexact H0
    iexact H1
  iexact HT

theorem creds (c : Dev nD) : (Pipeline.launchCred (fun d => owedFrom d 0) c : sProp 𝕄) ⊢ startCreds c := by
  unfold owedFrom startCreds six
  refine (creds_hop c 0 fun d => owedLast d 5).trans (sep_mono_right ?_)
  refine (creds_hop c 1 fun d => owedLast d 4).trans (sep_mono_right ?_)
  refine (creds_hop c 2 fun d => owedLast d 3).trans (sep_mono_right ?_)
  refine (creds_hop c 3 fun d => owedLast d 2).trans (sep_mono_right ?_)
  refine (creds_hop c 4 fun d => owedLast d 1).trans (sep_mono_right ?_)
  refine (creds_hop c 5 fun d => owedLast d 0).trans ?_
  iintro ⟨H, -⟩
  iexact H

/-! ## The buffers in pieces -/

def slotSet (x : Fin 2 × Fin 2) : Finset (S2x2x384x3072 : Shape).Idx := (slotRect x.1.val x.2.val).set
theorem slotSet_eq (r k : ℕ) : (commM.access (slotRect r k)).set = (slotRect r k).set := View.set_slice_whole _ _
theorem mem_slotSet (x : Fin 2 × Fin 2) (i : (S2x2x384x3072 : Shape).Idx) : i ∈ slotSet x ↔ (i 0).val = x.1.val ∧ (i 1).val = x.2.val := by
  unfold slotSet slotRect
  rw [Rect.mem_set_unit]
  have h2 : (i 2).val < 384 := (i 2).isLt
  have h3 : (i 3).val < 3072 := (i 3).isLt
  have e1 := Nat.mod_eq_of_lt x.1.isLt; have e2 := Nat.mod_eq_of_lt x.2.isLt
  constructor
  · intro h
    have h0 := h 0; have h1 := h 1
    simp at h0 h1
    omega
  · intro h a
    fin_cases a <;> simp <;> omega
theorem slotSet_disj (x y : Fin 2 × Fin 2) (h : x ≠ y) : Disjoint (slotSet x) (slotSet y) :=
  Finset.disjoint_left.mpr fun i hx hy => h (by
    rw [mem_slotSet] at hx hy
    exact Prod.ext (Fin.ext (hx.1.symm.trans hy.1)) (Fin.ext (hx.2.symm.trans hy.2)))
theorem slotSet_cover : Finset.univ.biUnion slotSet = Finset.univ :=
  Finset.eq_univ_of_forall fun i => Finset.mem_biUnion.mpr ⟨(⟨(i 0).val, (i 0).isLt⟩, ⟨(i 1).val, (i 1).isLt⟩), Finset.mem_univ _, by rw [mem_slotSet]; exact ⟨rfl, rfl⟩⟩

theorem any_slot_eq (c : Dev nD) (r k : ℕ) :
    (iprop(∃ v, slotP c r k v) : sProp 𝕄) = iprop(∃ f, ((c : Thread nD τ).loc cc0_scratch0) ↦[(slotRect r k).set]{fullShare} f) := by
  unfold slotP
  rw [slotSet_eq]
  refine BI.Entails.antisymm ?_ ?_
  · show _ ⊢ (_ : sProp 𝕄)
    iintro ⟨%v, %f, -, H⟩; iexists f; iexact H
  · show _ ⊢ (_ : sProp 𝕄)
    iintro ⟨%f, H⟩; iexists _; iexists f
    isplitr; · ipureintro; rfl
    iexact H

theorem anySlots_eq (c : Dev nD) : (anySlots c : sProp 𝕄)
    = bigSep Finset.univ fun x : Fin 2 × Fin 2 => iprop(∃ f, ((c : Thread nD τ).loc cc0_scratch0) ↦[slotSet x]{fullShare} f) := by
  unfold anySlots
  rw [bigSep_univ_prod]
  simp only [bigSep_fin2, any_slot_eq]
  exact (BI.equiv_iff.mp ⟨BI.sep_assoc, BI.sep_assoc'⟩).symm

theorem slots_split (c : Dev nD) (f : Buf (Elt F) ((c : Thread nD τ).loc cc0_scratch0)) :
    (((c : Thread nD τ).loc cc0_scratch0) ↦{fullShare} f : sProp 𝕄) ⊢ anySlots c := by
  rw [anySlots_eq, Ring.pointsTo_blocks (ℓ := (c : Thread nD τ).loc cc0_scratch0) slotSet slotSet_disj slotSet_cover f]
  exact bigSep_mono fun x _ => show (_ : sProp 𝕄) ⊢ _ from by iintro H; iexists f; iexact H
theorem slots_join (c : Dev nD) (f₀ : Buf (Elt F) ((c : Thread nD τ).loc cc0_scratch0)) : (anySlots c : sProp 𝕄) ⊢ iprop(∃ f, ((c : Thread nD τ).loc cc0_scratch0) ↦{fullShare} f) := by
  rw [anySlots_eq]
  exact Ring.pointsTo_blocks_join_exists (ℓ := (c : Thread nD τ).loc cc0_scratch0) slotSet slotSet_disj slotSet_cover f₀

def tmpSet (x : Fin 2) : Finset (S2x384x3072 : Shape).Idx := (tmpRect x.val).set
theorem tmpSet_eq (r : ℕ) : (tmpM.access (tmpRect r)).set = (tmpRect r).set := View.set_slice_whole _ _
theorem mem_tmpSet (x : Fin 2) (i : (S2x384x3072 : Shape).Idx) : i ∈ tmpSet x ↔ (i 0).val = x.val := by
  unfold tmpSet tmpRect
  rw [Rect.mem_set_unit]
  have h2 : (i 1).val < 384 := (i 1).isLt
  have h3 : (i 2).val < 3072 := (i 2).isLt
  have e1 := Nat.mod_eq_of_lt x.isLt
  constructor
  · intro h
    have h0 := h 0
    simp at h0
    omega
  · intro h a
    fin_cases a <;> simp <;> omega
theorem tmpSet_disj (x y : Fin 2) (h : x ≠ y) : Disjoint (tmpSet x) (tmpSet y) :=
  Finset.disjoint_left.mpr fun i hx hy => h (by
    rw [mem_tmpSet] at hx hy
    exact Fin.ext (hx.symm.trans hy))
theorem tmpSet_cover : Finset.univ.biUnion tmpSet = Finset.univ :=
  Finset.eq_univ_of_forall fun i => Finset.mem_biUnion.mpr ⟨⟨(i 0).val, (i 0).isLt⟩, Finset.mem_univ _, by rw [mem_tmpSet]⟩

theorem any_tmp_eq (c : Dev nD) (r : ℕ) :
    (iprop(∃ v, tmpP c r v) : sProp 𝕄) = iprop(∃ f, ((c : Thread nD τ).loc cc0_scratch1) ↦[(tmpRect r).set]{fullShare} f) := by
  unfold tmpP
  rw [tmpSet_eq]
  refine BI.Entails.antisymm ?_ ?_
  · show _ ⊢ (_ : sProp 𝕄)
    iintro ⟨%v, %f, -, H⟩; iexists f; iexact H
  · show _ ⊢ (_ : sProp 𝕄)
    iintro ⟨%f, H⟩; iexists _; iexists f
    isplitr; · ipureintro; rfl
    iexact H

theorem anyTmps_eq (c : Dev nD) : (anyTmps c : sProp 𝕄)
    = bigSep Finset.univ fun x : Fin 2 => iprop(∃ f, ((c : Thread nD τ).loc cc0_scratch1) ↦[tmpSet x]{fullShare} f) := by
  unfold anyTmps
  rw [bigSep_fin2, any_tmp_eq, any_tmp_eq]
  rfl

theorem tmps_split (c : Dev nD) (f : Buf (Elt F) ((c : Thread nD τ).loc cc0_scratch1)) :
    (((c : Thread nD τ).loc cc0_scratch1) ↦{fullShare} f : sProp 𝕄) ⊢ anyTmps c := by
  rw [anyTmps_eq, Ring.pointsTo_blocks (ℓ := (c : Thread nD τ).loc cc0_scratch1) tmpSet tmpSet_disj tmpSet_cover f]
  exact bigSep_mono fun x _ => show (_ : sProp 𝕄) ⊢ _ from by iintro H; iexists f; iexact H
theorem tmps_join (c : Dev nD) (f₀ : Buf (Elt F) ((c : Thread nD τ).loc cc0_scratch1)) : (anyTmps c : sProp 𝕄) ⊢ iprop(∃ f, ((c : Thread nD τ).loc cc0_scratch1) ↦{fullShare} f) := by
  rw [anyTmps_eq]
  exact Ring.pointsTo_blocks_join_exists (ℓ := (c : Thread nD τ).loc cc0_scratch1) tmpSet tmpSet_disj tmpSet_cover f₀

/-- The tile of the result device `c` finishes as its `j`-th in direction `r`. -/
def outSet (c : Dev nD) (x : Fin 4 × Fin 2) : Finset (S3072x3072 : Shape).Idx := (oRect (oblk x.2.val x.1.val c) x.2.val).set
theorem outSet_eq (b r : ℕ) : (outSM b r).view.set = (oRect b r).set := View.set_slice_whole _ _
theorem oblk_zero (j : ℕ) (c : Dev nD) : oblk 0 j c = c.val + 5 - j := rfl
theorem oblk_one (j : ℕ) (c : Dev nD) : oblk 1 j c = c.val + 3 + j := rfl
theorem mem_oRect (b r : ℕ) (i : (S3072x3072 : Shape).Idx) : i ∈ (oRect b r).set ↔ row b r ≤ (i 0).val ∧ (i 0).val < row b r + 384 := by
  unfold oRect
  rw [Rect.mem_set_unit]
  have h3 : (i 1).val < 3072 := (i 1).isLt
  constructor
  · intro h
    have h0 := h 0
    simpa using h0
  · intro h a
    fin_cases a <;> simp <;> omega
theorem mem_outSet (c : Dev nD) (j : Fin 4) (r : Fin 2) (i : (S3072x3072 : Shape).Idx) :
    i ∈ outSet c (j, r) ↔ row (oblk r.val j.val c) r.val ≤ (i 0).val ∧ (i 0).val < row (oblk r.val j.val c) r.val + 384 := mem_oRect _ _ _
theorem outSet_disj (c : Dev nD) (x y : Fin 4 × Fin 2) (h : x ≠ y) : Disjoint (outSet c x) (outSet c y) :=
  Finset.disjoint_left.mpr fun i hx hy => h (by
    obtain ⟨j, r⟩ := x; obtain ⟨j', r'⟩ := y
    rw [mem_outSet] at hx hy
    have hc : c.val < 4 := c.isLt
    have hj := j.isLt; have hj' := j'.isLt
    unfold row at hx hy
    have hr : r = r' := by
      fin_cases r <;> fin_cases r' <;> first | rfl | (exfalso; simp at hx hy; omega)
    subst hr
    have : j.val = j'.val := by
      fin_cases r <;> simp [oblk_zero, oblk_one] at hx hy <;> omega
    exact Prod.ext (Fin.ext this) rfl)
theorem outSet_cover (c : Dev nD) : Finset.univ.biUnion (outSet c) = Finset.univ :=
  Finset.eq_univ_of_forall fun i => by
    have hi : (i 0).val < 3072 := (i 0).isLt
    have hc : c.val < 4 := c.isLt
    by_cases hr : (i 0).val / 384 % 2 = 0
    · refine Finset.mem_biUnion.mpr ⟨(⟨(c.val + 5 - (i 0).val / 768) % 4, Nat.mod_lt _ (by decide)⟩, 0), Finset.mem_univ _, ?_⟩
      rw [mem_outSet]
      unfold row
      simp [oblk_zero]
      omega
    · refine Finset.mem_biUnion.mpr ⟨(⟨((i 0).val / 768 + 5 - c.val) % 4, Nat.mod_lt _ (by decide)⟩, 1), Finset.mem_univ _, ?_⟩
      rw [mem_outSet]
      unfold row
      simp [oblk_one]
      omega

theorem out_split (c : Dev nD) (f : Buf (Elt F) ((c : Thread nD τ).loc main_v1)) :
    (((c : Thread nD τ).loc main_v1) ↦{fullShare} f : sProp 𝕄) ⊢ anyOut c := by
  have h (b r : ℕ) : (((c : Thread nD τ).loc main_v1) ↦[(oRect b r).set]{fullShare} f : sProp 𝕄) ⊢ iprop(∃ v, outP c b r v) := by
    unfold outP
    rw [outSet_eq]
    iintro H; iexists _; iexists f
    isplitr; · ipureintro; rfl
    iexact H
  rw [Ring.pointsTo_blocks (ℓ := (c : Thread nD τ).loc main_v1) (outSet c) (outSet_disj c) (outSet_cover c) f, bigSep_univ_prod]
  simp only [bigSep_fin2, bigSep_fin4]
  unfold anyOut four
  exact BI.sep_mono (BI.sep_mono (h _ _) (h _ _)) (BI.sep_mono (BI.sep_mono (h _ _) (h _ _)) (BI.sep_mono (BI.sep_mono (h _ _) (h _ _)) (BI.sep_mono (h _ _) (h _ _))))

/-! ## Reading the finished tiles -/

theorem out_read (c : Dev nD) (b r : ℕ) (v : Vec F S384x3072 .f32) (s' : Phys nD τ sig (Elt F)) :
    iprop(outP c b r v ∗ SI s') ⊢ (iprop(⌜(outSM b r).view.read (Elt F) (s'.mem.mem ((c : Thread nD τ).loc main_v1)) = v⌝ ∗ SI s') : sProp 𝕄) := by
  unfold outP
  iintro ⟨⟨%f, %hf, H⟩, HSI⟩
  icombine HSI H gives %h
  isplitr
  · ipureintro
    rw [← hf]
    funext x
    exact h _ (Finset.mem_map_of_mem _ (Finset.mem_univ x))
  iexact HSI

/-- What the result array of device `c` holds: each of the eight tiles. -/
def OutDone (c : Dev nD) (f : (main_v1 : Ref sig .tc).ty.Contents (Elt F)) : Prop :=
  ∀ j < 4, ∀ r < 2, (outSM (oblk r j c) r).view.read (Elt F) f = flat (tile m r j c)

theorem done_read (c : Dev nD) (s' : Phys nD τ sig (Elt F)) :
    iprop(doneOut m c ∗ SI s') ⊢ (iprop(⌜OutDone m c (s'.mem.mem ((c : Thread nD τ).loc main_v1))⌝ ∗ SI s') : sProp 𝕄) := by
  unfold doneOut four
  iintro ⟨⟨⟨A0, B0⟩, ⟨A1, B1⟩, ⟨A2, B2⟩, A3, B3⟩, HSI⟩
  ihave H := (out_read c (oblk 0 0 c) 0 (flat (tile m 0 0 c)) s') $$ [A0 HSI]
  · isplitl [A0] <;> iassumption
  icases H with ⟨%hA0, HSI⟩
  ihave H := (out_read c (oblk 1 0 c) 1 (flat (tile m 1 0 c)) s') $$ [B0 HSI]
  · isplitl [B0] <;> iassumption
  icases H with ⟨%hB0, HSI⟩
  ihave H := (out_read c (oblk 0 1 c) 0 (flat (tile m 0 1 c)) s') $$ [A1 HSI]
  · isplitl [A1] <;> iassumption
  icases H with ⟨%hA1, HSI⟩
  ihave H := (out_read c (oblk 1 1 c) 1 (flat (tile m 1 1 c)) s') $$ [B1 HSI]
  · isplitl [B1] <;> iassumption
  icases H with ⟨%hB1, HSI⟩
  ihave H := (out_read c (oblk 0 2 c) 0 (flat (tile m 0 2 c)) s') $$ [A2 HSI]
  · isplitl [A2] <;> iassumption
  icases H with ⟨%hA2, HSI⟩
  ihave H := (out_read c (oblk 1 2 c) 1 (flat (tile m 1 2 c)) s') $$ [B2 HSI]
  · isplitl [B2] <;> iassumption
  icases H with ⟨%hB2, HSI⟩
  ihave H := (out_read c (oblk 0 3 c) 0 (flat (tile m 0 3 c)) s') $$ [A3 HSI]
  · isplitl [A3] <;> iassumption
  icases H with ⟨%hA3, HSI⟩
  ihave H := (out_read c (oblk 1 3 c) 1 (flat (tile m 1 3 c)) s') $$ [B3 HSI]
  · isplitl [B3] <;> iassumption
  icases H with ⟨%hB3, HSI⟩
  isplitr
  · ipureintro
    intro j hj r hr
    match j, hj, r, hr with
    | 0, _, 0, _ => exact hA0
    | 0, _, 1, _ => exact hB0
    | 1, _, 0, _ => exact hA1
    | 1, _, 1, _ => exact hB1
    | 2, _, 0, _ => exact hA2
    | 2, _, 1, _ => exact hB2
    | 3, _, 0, _ => exact hA3
    | 3, _, 1, _ => exact hB3
  iexact HSI

end Cert.RingIdeal

end
-- ==== Proof.RingIdeal.Launch.lean ====
/-
# The run

The four kernels started together: every weakly fair execution ends, each device's operands are what they were, every semaphore
counter is at zero, and each device's result array holds the eight finished tiles.
-/
module

public import proofs.«01_k».proof.Proof.RingIdeal.Deal
public import proofs.«01_k».proof.Proof.Gen.KernelIdeal.Frame
public import Idealize.ShloMosaic.Lib.Pipeline.CollectiveSegs

@[expose] public section

noncomputable section

namespace Cert.RingIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (ρ : Dev nD → PrngReg)

abbrev s₀ : MemSt nD τ sig (Elt F) := ⟨m, fun _ => 0, ρ⟩

def start (c : Dev nD) : sProp 𝕄 := iprop(G' m c ∗ startCreds c ∗ levAts L lv ∗ anyOut c)
def Φ₀ (c : Dev nD) : sProp 𝕄 := iprop(start m c ∗ anySlots c ∗ anyTmps c)
def Φ₁ (c : Dev nD) : sProp 𝕄 := iprop(allZero c ∗ anySlots c ∗ anyTmps c ∗ doneOut m c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xA m c
    | ⟨1, _⟩ => xB m c
  Φ t := match t with
    | ⟨0, _⟩ => Φ₀ m c
    | ⟨_ + 1, _⟩ => Φ₁ m c
  q _ := fullShare
  owed t := match t with
    | ⟨0, _⟩ => owedFrom c 0
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre' (c : Dev nD) : sProp 𝕄 :=
  iprop(Φ₀ m c ∗ (dats m ρ 0 c).owesAt (0 : ℕ) t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt (0 : ℕ) t0_0.succ ∗ stg c cc0_stg0_0 (xA m c) ∗ stg c cc0_stg1_0 (xB m c))

theorem before_0 (c : Dev nD) (d) : (dats m ρ 0 c).before (0 : Fin 2) t0_0 d = xA m c := by
  unfold Dat.before; rw [if_pos (fetch0_0 t0_0)]; rfl
theorem before_1 (c : Dev nD) (d) : (dats m ρ 0 c).before (1 : Fin 2) t0_0 d = xB m c := by
  unfold Dat.before; rw [if_pos (fetch0_1 t0_0)]; rfl

set_option maxRecDepth 4000 in
theorem sound_body (c : Dev nD) : bodyPre' m ρ c ⊢ wp frame (wpE (defs₀ (F := F)) 𝒱₀ (c : Thread nD τ) none) Set.univ
    (cc0_body (F := F) xaM (Memref.isWhole_whole _) xbM (Memref.isWhole_whole _) outM (Memref.isWhole_whole _) commM (Memref.isWhole_whole _)
      tmpM (Memref.isWhole_whole _) cc0_scratch2 cc0_scratch3 cc0_scratch4) (fun _ => bodyPost m ρ c) := by
  unfold bodyPre' Φ₀ start G' stg Dat.owesAt Pipeline.owesWithin
  rw [show (dats m ρ 0 c).owed t0_0.castSucc = owedFrom c 0 from rfl]
  iintro ⟨⟨⟨⟨#HR, Hpos, Htok⟩, Hcr, #Hlev, Hout⟩, Hsl, Htm⟩, ⟨%W, -, HO⟩, ⟨%dA, %fA, %hA, HA⟩, %dB, %fB, %hB, HB⟩
  rw [before_0] at hA
  rw [before_1] at hB
  subst hA; subst hB
  ihave Hw := (body_run m c (Kt := fun _ => bodyPost m ρ c)) $$ [Htok Hcr Hpos Hsl Htm Hout HA HB HO]
  · unfold bodyStart stgA stgB ow
    isplitr; · iexact HR
    isplitr; · iexact Hlev
    isplitl [Htok]; · iexact Htok
    isplitl [Hcr]; · iexact Hcr
    isplitl [Hpos]; · iexact Hpos
    isplitl [Hsl]; · iexact Hsl
    isplitl [Htm]; · iexact Htm
    isplitl [Hout]; · iexact Hout
    isplitl [HA]; · iexact HA
    isplitl [HB]; · iexact HB
    iexists W; iexact HO
  · iapply Hw
    unfold bodyEnd bodyPost Φ₁ stg stgA stgB ow Dat.owesAt Pipeline.owesWithin
    rw [show (dats m ρ 0 c).owed t0_0.succ = 0 from rfl]
    iintro ⟨Hz, Hsl, Htm, Hout, HA, HB, %W', HO⟩
    isplitl [Hz Hsl Htm Hout]
    · isplitl [Hz]; · iexact Hz
      isplitl [Hsl]; · iexact Hsl
      isplitl [Htm]; · iexact Htm
      iexact Hout
    isplitl [HO]
    · iexists W'
      isplitr; · ipureintro; exact fun _ _ => Or.inl trivial
      iexact HO
    isplitl [HA]
    · iexists _; isplitr; · (ipureintro; rfl)
      iexact HA
    iexists _; isplitr; · (ipureintro; rfl)
    iexact HB

set_option maxRecDepth 100000 in
/-- What the pipeline asks of the body on device `c`. -/
theorem body_obligation (c : Dev nD) : BodyObligation (dats (F := F) m ρ 0 c) (defs₀ (F := F)) 𝒱₀ (0 : ℕ) Set.univ := fun t => by
  rw [fin_N0 t]
  rw [bigSep_W0, bigSep_W0]
  simp only [owns_whole_eq]
  exact sound_body m ρ c

/-! ## The launch -/

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' m c)
      ⊢ (|={Set.univ}=> iprop(start m c ∗ emp) : sProp 𝕄) := by
  rw [Pipeline.unscopedRestP_none, unscopedRest0_eq]
  iintro ⟨Hout, Hlev, Hcr, -, HG⟩
  ihave Hc := (creds (F := F) c) $$ Hcr
  ihave Ho := (out_split c _) $$ Hout
  imodintro
  unfold start
  isplitl
  · isplitl [HG]; · iexact HG
    isplitl [Hc]; · iexact Hc
    isplitl [Hlev]; · iexact Hlev
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, H0⟩, %g, H1⟩
  isplitl [Hs]; · iexact Hs
  isplitl [H0]; · iapply (slots_split c f); iexact H0
  iapply (tmps_split c g); iexact H1

theorem phi1_exit (c : Dev nD) :
    (dats m ρ 0 c).Φ (Fin.last cfg0.N) ⊢ iprop((unscopedSems0 c ∗ doneOut m c) ∗ Pipeline.ownSems0 osem c ∗ Pipeline.scopedRest cfg0.spec c) := by
  rw [show (dats m ρ 0 c).Φ (Fin.last cfg0.N) = Φ₁ m c from rfl, scopedRest0_eq]
  unfold Φ₁
  iintro ⟨Hz, Hsl, Htm, Hout⟩
  ihave Hz := (allZero_elim c) $$ Hz
  icases Hz with ⟨Ho, Hu⟩
  isplitl [Hu Hout]
  · isplitl [Hu] <;> iassumption
  isplitl [Ho]; · iexact Ho
  isplitl [Hsl]; · iapply (slots_join c (m _)); iexact Hsl
  iapply (tmps_join c (m _)); iexact Htm

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait_of c _ 0 0 (by decide) (by fin_cases w <;> fin_cases s <;> decide) (by
      rcases t with ⟨_ | _, ht⟩
      · exact above_from' c (by decide)
      · exact above_zero _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ OutDone m c (r.2.mem ((c : Thread nD τ).loc main_v1))

set_option maxRecDepth 8000 in
/-- On four devices, for any float values, from any memory with zero counters: every weakly fair execution of the program ends
    with each result array at its eight tiles, the operands' arrays at their final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedFrom d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ doneOut m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ OutDone m c (s.mem ((c : Thread nD τ).loc main_v1)))
    (hY := fun c s' => by
      iintro ⟨⟨Hu, Hd⟩, -, HSI⟩
      ihave H := (done_read m c s') $$ [Hd HSI]
      · isplitl [Hd] <;> iassumption
      icases H with ⟨%hd, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hd⟩
      iexact HSI)
    (hQ := fun _ h hs => ⟨fun c => ⟨fun w => (h c).1 w, (h c).2.2.2⟩, sem_eq_zero hs fun c => (h c).2.2.1⟩)

/-- The operands' arrays after the run hold what they held. -/
theorem finalA_0 (c : Dev nD) : finalA m ρ c (0 : Fin 2) = m ((c : Thread nD τ).loc main_arg0) :=
  (dats (F := F) m ρ 0 c).arrAt_in (0 : Fin 2) rfl _
theorem finalA_1 (c : Dev nD) : finalA m ρ c (1 : Fin 2) = m ((c : Thread nD τ).loc main_arg1) :=
  (dats (F := F) m ρ 0 c).arrAt_in (1 : Fin 2) rfl _

/-- The run with the operands' arrays named: each device's result array at its tiles, its operands unchanged, all counters zero. -/
theorem run_named : θ_run defs (onTc (τ := τ) (main (F := F))) (s₀ m ρ) (fun r =>
    (∀ c : Dev nD, OutDone m c (r.2.mem ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs (onTc (τ := τ) (main (F := F))) (s₀ m ρ)).mono
    (fun _ h => ⟨fun c => ⟨(h.1 c).2, ((h.1 c).1 0).trans (finalA_0 m ρ c), ((h.1 c).1 1).trans (finalA_1 m ρ c)⟩, h.2⟩) (run_main m ρ)

end Cert.RingIdeal

end
-- ==== Proof.RingIdeal.Value.lean ====
/-
# The value

The contents the run leaves, in sums: each finished tile is the sum over the four devices of their partial products, which is
the contraction over the whole axis cut in four.
-/
module

public import proofs.«01_k».proof.Proof.RingIdeal.Launch
public import Idealize.ShloMosaic.Lib.Pointwise
public import Idealize.ShloMosaic.Lib.Layout
public import Idealize.ShloMosaic.Lib.Pipeline.ValueKit.Acc

@[expose] public section

noncomputable section

namespace Cert.RingIdeal

open Cert.KernelIdeal Cert.KernelIdeal.Gen

open Idealize.ShloMosaic
open Idealize.ShloMosaic.TcCoe
open scoped BigOperators

variable (m : (ℓ : Loc nD τ sig) → Buf (Elt Ideal) ℓ)

/-- Device `c`'s operands. -/
def opA (c : Dev nD) : FVec Ideal S3072x1536 .f32 := m ((c : Thread nD τ).loc main_arg0)
def opB (c : Dev nD) : FVec Ideal S1536x3072 .f32 := m ((c : Thread nD τ).loc main_arg1)

theorem xA_eq (c : Dev nD) : xA m c = opA m c := by
  unfold xA opA
  funext x
  refine congrArg (m ((c : Thread nD τ).loc main_arg0)) (funext fun a => Fin.ext ?_)
  fin_cases a
  · show 0 * 3072 + 1 * (x 0).val = (x 0).val
    omega
  · show 0 * 1536 + 1 * (x 1).val = (x 1).val
    omega
theorem xB_eq (c : Dev nD) : xB m c = opB m c := by
  unfold xB opB
  funext x
  refine congrArg (m ((c : Thread nD τ).loc main_arg1)) (funext fun a => Fin.ext ?_)
  fin_cases a
  · show 0 * 1536 + 1 * (x 0).val = (x 0).val
    omega
  · show 0 * 3072 + 1 * (x 1).val = (x 1).val
    omega

/-- Row `n + i` of device `c`'s left block times column `j` of its right block. -/
def P (c : Dev nD) (n : ℕ) (i : Fin 384) (j : Fin 3072) : EReal :=
  ∑ k : Fin 1536, opA m c (ix2 ⟨(n + i.val) % 3072, Nat.mod_lt _ (by decide)⟩ k) * opB m c (ix2 k j)

theorem aRow_apply (c : Dev nD) (b r : ℕ) (i : Fin 384) (k : Fin 1536) :
    aRow m c b r (ix2 i k) = opA m c (ix2 ⟨(row b r + i.val) % 3072, Nat.mod_lt _ (by decide)⟩ k) := by
  unfold aRow
  rw [xA_eq]
  refine congrArg (opA m c) (funext fun a => Fin.ext ?_)
  have := row_le b r
  have hi := i.isLt
  fin_cases a
  · show row b r + 1 * i.val = (row b r + i.val) % 3072
    omega
  · show 0 + 1 * k.val = k.val
    omega

theorem part_apply (c : Dev nD) (b r : ℕ) (i : Fin 384) (j : Fin 3072) :
    part m c b r (ix3 0 i j) = P m c (row b r) i j := by
  unfold part P
  pointwise [k0_pay4]
  rw [xB_eq]
  refine Finset.sum_congr rfl fun k _ => ?_
  rw [← aRow_apply]

theorem first_apply (c : Dev nD) (r : ℕ) (i : Fin 384) (j : Fin 3072) :
    V m r 0 c (ix4 0 0 i j) = P m c (row c.val r) i j := by
  rw [V_zero]
  unfold P
  pointwise [k0_pay3]
  rw [xB_eq]
  refine Finset.sum_congr rfl fun k _ => ?_
  rw [← aRow_apply]

theorem add_apply {r k : ℕ} (hk : k < 3) (c : Dev nD) (i : Fin 384) (j : Fin 3072) :
    V m r (k + 1) c (ix4 0 0 i j) = V m r k (src r c) (ix4 0 0 i j) + P m c (row (ablk r k c) r) i j := by
  rw [V_add m hk, ← part_apply]
  pointwise [k0_pay6]

theorem flat_tile_apply (r j : ℕ) (c : Dev nD) (i : Fin 384) (l : Fin 3072) :
    flat (tile m r j c) (ix2 i l) = V m r (3 + j) c (ix4 0 0 i l) := by
  unfold tile
  pointwise [k0_pay22]

/-- The reduced tile: the four devices' partial products of it. -/
def total (n : ℕ) (i : Fin 384) (j : Fin 3072) : EReal := ∑ d : Dev nD, P m d n i j

theorem sum_ring_0 (f : Dev nD → EReal) (c : Dev nD) : f (prv (prv (prv c))) + f (prv (prv c)) + f (prv c) + f c = ∑ d, f d := by
  have h : (∑ d, f d) = f 0 + f 1 + f 2 + f 3 := Fin.sum_univ_four f
  rw [h]
  fin_cases c
  · show f 1 + f 2 + f 3 + f 0 = _
    ac_rfl
  · show f 2 + f 3 + f 0 + f 1 = _
    ac_rfl
  · show f 3 + f 0 + f 1 + f 2 = _
    ac_rfl
  · rfl
theorem sum_ring_1 (f : Dev nD → EReal) (c : Dev nD) : f (nxt (nxt (nxt c))) + f (nxt (nxt c)) + f (nxt c) + f c = ∑ d, f d := by
  have h : (∑ d, f d) = f 0 + f 1 + f 2 + f 3 := Fin.sum_univ_four f
  rw [h]
  fin_cases c
  · show f 3 + f 2 + f 1 + f 0 = _
    ac_rfl
  · show f 0 + f 3 + f 2 + f 1 = _
    ac_rfl
  · show f 1 + f 0 + f 3 + f 2 = _
    ac_rfl
  · show f 2 + f 1 + f 0 + f 3 = _
    ac_rfl

theorem row_ring_0 : ∀ c : Dev nD, row (prv (prv (prv c))).val 0 = row (c.val + 1) 0 ∧ row (ablk 0 0 (prv (prv c))) 0 = row (c.val + 1) 0
    ∧ row (ablk 0 1 (prv c)) 0 = row (c.val + 1) 0 ∧ row (ablk 0 2 c) 0 = row (c.val + 1) 0 := by decide
theorem row_ring_1 : ∀ c : Dev nD, row (nxt (nxt (nxt c))).val 1 = row (c.val + 3) 1 ∧ row (ablk 1 0 (nxt (nxt c))) 1 = row (c.val + 3) 1
    ∧ row (ablk 1 1 (nxt c)) 1 = row (c.val + 3) 1 ∧ row (ablk 1 2 c) 1 = row (c.val + 3) 1 := by decide

theorem reduced_0 (c : Dev nD) (i : Fin 384) (j : Fin 3072) : V m 0 3 c (ix4 0 0 i j) = total m (row (c.val + 1) 0) i j := by
  rw [add_apply m (by decide), add_apply m (by decide), add_apply m (by decide), first_apply]
  show P m (prv (prv (prv c))) (row (prv (prv (prv c))).val 0) i j + P m (prv (prv c)) (row (ablk 0 0 (prv (prv c))) 0) i j
    + P m (prv c) (row (ablk 0 1 (prv c)) 0) i j + P m c (row (ablk 0 2 c) 0) i j = _
  obtain ⟨h0, h1, h2, h3⟩ := row_ring_0 c
  rw [h0, h1, h2, h3]
  exact sum_ring_0 (fun d => P m d (row (c.val + 1) 0) i j) c
theorem reduced_1 (c : Dev nD) (i : Fin 384) (j : Fin 3072) : V m 1 3 c (ix4 0 0 i j) = total m (row (c.val + 3) 1) i j := by
  rw [add_apply m (by decide), add_apply m (by decide), add_apply m (by decide), first_apply]
  show P m (nxt (nxt (nxt c))) (row (nxt (nxt (nxt c))).val 1) i j + P m (nxt (nxt c)) (row (ablk 1 0 (nxt (nxt c))) 1) i j
    + P m (nxt c) (row (ablk 1 1 (nxt c)) 1) i j + P m c (row (ablk 1 2 c) 1) i j = _
  obtain ⟨h0, h1, h2, h3⟩ := row_ring_1 c
  rw [h0, h1, h2, h3]
  exact sum_ring_1 (fun d => P m d (row (c.val + 3) 1) i j) c

/-- What device `c` forwards at gather hop `j` is the tile some device reduced. -/
theorem fwd_0 (c : Dev nD) : V m 0 4 c = V m 0 3 (prv c) ∧ V m 0 5 c = V m 0 3 (prv (prv c)) ∧ V m 0 6 c = V m 0 3 (prv (prv (prv c))) :=
  ⟨V_fwd m (k := 3) (by decide) c, (V_fwd m (k := 4) (by decide) c).trans (V_fwd m (k := 3) (by decide) _),
    ((V_fwd m (k := 5) (by decide) c).trans (V_fwd m (k := 4) (by decide) _)).trans (V_fwd m (k := 3) (by decide) _)⟩
theorem fwd_1 (c : Dev nD) : V m 1 4 c = V m 1 3 (nxt c) ∧ V m 1 5 c = V m 1 3 (nxt (nxt c)) ∧ V m 1 6 c = V m 1 3 (nxt (nxt (nxt c))) :=
  ⟨V_fwd m (k := 3) (by decide) c, (V_fwd m (k := 4) (by decide) c).trans (V_fwd m (k := 3) (by decide) _),
    ((V_fwd m (k := 5) (by decide) c).trans (V_fwd m (k := 4) (by decide) _)).trans (V_fwd m (k := 3) (by decide) _)⟩

theorem row_fwd : ∀ c : Dev nD, (row (c.val + 1) 0 = row (oblk 0 0 c) 0 ∧ row ((prv c).val + 1) 0 = row (oblk 0 1 c) 0
    ∧ row ((prv (prv c)).val + 1) 0 = row (oblk 0 2 c) 0 ∧ row ((prv (prv (prv c))).val + 1) 0 = row (oblk 0 3 c) 0)
    ∧ row (c.val + 3) 1 = row (oblk 1 0 c) 1 ∧ row ((nxt c).val + 3) 1 = row (oblk 1 1 c) 1
    ∧ row ((nxt (nxt c)).val + 3) 1 = row (oblk 1 2 c) 1 ∧ row ((nxt (nxt (nxt c))).val + 3) 1 = row (oblk 1 3 c) 1 := by decide

/-- Every finished tile is the sum of the four partial products of its rows. -/
theorem tile_total (c : Dev nD) {r j : ℕ} (hr : r < 2) (hj : j < 4) (i : Fin 384) (l : Fin 3072) :
    flat (tile m r j c) (ix2 i l) = total m (row (oblk r j c) r) i l := by
  rw [flat_tile_apply]
  obtain ⟨⟨h0, h1, h2, h3⟩, g0, g1, g2, g3⟩ := row_fwd c
  match r, hr, j, hj with
  | 0, _, 0, _ => rw [← h0]; exact reduced_0 m c i l
  | 0, _, 1, _ => rw [← h1]; exact (congrFun (fwd_0 m c).1 _).trans (reduced_0 m _ i l)
  | 0, _, 2, _ => rw [← h2]; exact (congrFun (fwd_0 m c).2.1 _).trans (reduced_0 m _ i l)
  | 0, _, 3, _ => rw [← h3]; exact (congrFun (fwd_0 m c).2.2 _).trans (reduced_0 m _ i l)
  | 1, _, 0, _ => rw [← g0]; exact reduced_1 m c i l
  | 1, _, 1, _ => rw [← g1]; exact (congrFun (fwd_1 m c).1 _).trans (reduced_1 m _ i l)
  | 1, _, 2, _ => rw [← g2]; exact (congrFun (fwd_1 m c).2.1 _).trans (reduced_1 m _ i l)
  | 1, _, 3, _ => rw [← g3]; exact (congrFun (fwd_1 m c).2.2 _).trans (reduced_1 m _ i l)

/-! ## The whole result -/

/-- The tile a row of the result lies in. -/
theorem row_tile (c : Dev nD) (n : Fin 3072) : ∃ j < 4, ∃ r < 2, ∃ i : Fin 384, row (oblk r j c) r + i.val = n.val := by
  have hc : c.val < 4 := c.isLt
  have hn := n.isLt
  by_cases hr : n.val / 384 % 2 = 0
  · refine ⟨(c.val + 5 - n.val / 768) % 4, Nat.mod_lt _ (by decide), 0, by decide, ⟨n.val % 384, Nat.mod_lt _ (by decide)⟩, ?_⟩
    rw [oblk_zero]; unfold row
    show 768 * ((c.val + 5 - (c.val + 5 - n.val / 768) % 4) % 4) + 384 * (0 % 2) + n.val % 384 = n.val
    omega
  · refine ⟨(n.val / 768 + 5 - c.val) % 4, Nat.mod_lt _ (by decide), 1, by decide, ⟨n.val % 384, Nat.mod_lt _ (by decide)⟩, ?_⟩
    rw [oblk_one]; unfold row
    show 768 * ((c.val + 3 + (n.val / 768 + 5 - c.val) % 4) % 4) + 384 * (1 % 2) + n.val % 384 = n.val
    omega

/-- Row `n` times column `l`, device by device. -/
def full (n l : Fin 3072) : EReal := ∑ d : Dev nD, ∑ k : Fin 1536, opA m d (ix2 n k) * opB m d (ix2 k l)

theorem total_eq_full {n₀ : ℕ} {i : Fin 384} {n : Fin 3072} (h : n₀ + i.val = n.val) (l : Fin 3072) : total m n₀ i l = full m n l := by
  unfold total P full
  refine Finset.sum_congr rfl fun d _ => Finset.sum_congr rfl fun k _ => ?_
  rw [show (⟨(n₀ + i.val) % 3072, Nat.mod_lt _ (by decide)⟩ : Fin 3072) = n from
    Fin.ext (by show (n₀ + i.val) % 3072 = n.val; rw [h]; exact Nat.mod_eq_of_lt n.isLt)]

/-- An array holding the eight tiles holds the sums of the partial products. -/
theorem done_apply (c : Dev nD) (f : (main_v1 : Ref sig .tc).ty.Contents (Elt Ideal)) (h : OutDone m c f) (n l : Fin 3072) :
    (f : FVec Ideal S3072x3072 .f32) (ix2 n l) = full m n l := by
  obtain ⟨j, hj, r, hr, i, hi⟩ := row_tile c n
  have h1 := congrFun (h j hj r hr) (ix2 i l)
  rw [tile_total m c hr hj] at h1
  have hidx : (outSM (oblk r j c) r).view.emb (ix2 i l) = (ix2 n l : (S3072x3072 : Shape).Idx) := by
    funext a; refine Fin.ext ?_
    fin_cases a
    · show row (oblk r j c) r + 1 * i.val = n.val
      omega
    · show 0 + 1 * l.val = l.val
      omega
  have h2 : (outSM (oblk r j c) r).view.read (Elt Ideal) f (ix2 i l) = (f : FVec Ideal S3072x3072 .f32) (ix2 n l) :=
    congrArg (f : FVec Ideal S3072x3072 .f32) hidx
  exact (h2.symm.trans h1).trans (total_eq_full m hi l)

end Cert.RingIdeal

end
-- ==== Proof.Algebraic.lean ====
/-
# The two programs' results

The reference's one contraction over 6144 positions is the sum of the four devices' contractions over their 1536, so every device
ends with the reference's result.
-/
module

public import proofs.«01_k».proof.Defs
public import proofs.«01_k».proof.Proof.RingIdeal.Value
public import proofs.«01_k».proof.Proof.Gen.ReferenceIdeal.Run

@[expose] public section

noncomputable section

namespace Cert.RingIdeal

open Idealize.ShloMosaic Idealize.ShloMosaic.TcCoe Idealize.SL.Sem
open scoped BigOperators

attribute [local instance] Cert.KernelIdeal.Gen.facts Cert.ReferenceIdeal.Gen.facts

abbrev WholeA : Shape := ⟨2, ![3072, 6144]⟩
abbrev WholeB : Shape := ⟨2, ![6144, 3072]⟩

/-- The reference's result. -/
def refOut (A : FVec Ideal WholeA .f32) (B : FVec Ideal WholeB .f32) : FVec Ideal Cert.ReferenceIdeal.S3072x3072 .f32 :=
  Host.dotGeneral Cert.ReferenceIdeal.dot_S3072x6144_S6144x3072_S3072x3072_1_0_0_1_n_n none A B

/-- Its entry at row `n`, column `l`. -/
theorem refOut_apply (A : FVec Ideal WholeA .f32) (B : FVec Ideal WholeB .f32) (n l : Fin 3072) :
    refOut A B (ix2 n l) = ∑ k : Fin 6144, A (ix2 n k) * B (ix2 k l) := by
  unfold refOut
  pointwise

variable (m : (ℓ : Loc Cert.KernelIdeal.nD Cert.KernelIdeal.τ Cert.KernelIdeal.sig) → Buf (Elt Ideal) ℓ)

/-- The devices' sums of 1536 products each are the reference's one sum of 6144. -/
theorem full_eq_ref (A : FVec Ideal WholeA .f32) (B : FVec Ideal WholeB .f32)
    (hA : ∀ c : Dev Cert.KernelIdeal.nD, opA m c = Layout.block ⟨2, ![3072, 1536]⟩ ⟨2, ![3072, 6144]⟩ 1 4 c A)
    (hB : ∀ c : Dev Cert.KernelIdeal.nD, opB m c = Layout.block ⟨2, ![1536, 3072]⟩ ⟨2, ![6144, 3072]⟩ 0 4 c B) (n l : Fin 3072) :
    full m n l = refOut A B (ix2 n l) := by
  rw [refOut_apply]
  unfold full
  refine Fin.sum_mul_add_congr (S := 4) (n := 1536) fun d k hl => ?_
  have h1 : opA m d (ix2 n k) = A (ix2 n ⟨d.val * 1536 + k.val, hl⟩) := by
    rw [hA d]
    refine congrArg A (funext fun a => Fin.ext ?_)
    fin_cases a <;> rfl
  have h2 : opB m d (ix2 k l) = B (ix2 ⟨d.val * 1536 + k.val, hl⟩ l) := by
    rw [hB d]
    refine congrArg B (funext fun a => Fin.ext ?_)
    fin_cases a <;> rfl
  rw [h1, h2]

/-- An array holding the eight tiles is the reference's result. -/
theorem done_eq_ref (c : Dev Cert.KernelIdeal.nD) (f : FVec Ideal Cert.KernelIdeal.S3072x3072 .f32) (h : OutDone m c f)
    (A : FVec Ideal WholeA .f32) (B : FVec Ideal WholeB .f32)
    (hA : ∀ c : Dev Cert.KernelIdeal.nD, opA m c = Layout.block ⟨2, ![3072, 1536]⟩ ⟨2, ![3072, 6144]⟩ 1 4 c A)
    (hB : ∀ c : Dev Cert.KernelIdeal.nD, opB m c = Layout.block ⟨2, ![1536, 3072]⟩ ⟨2, ![6144, 3072]⟩ 0 4 c B) : f = refOut A B := by
  funext x
  obtain ⟨n, l, rfl⟩ : ∃ n l : Fin 3072, x = ix2 n l := ⟨x 0, x 1, eq_ix2 x⟩
  exact (done_apply m c f h n l).trans (full_eq_ref m A B hA hB n l)

/-- Both programs end with the same array, on every device. -/
theorem algebraic : Cert.algebraic_KernelIdeal_ReferenceIdeal := by
  intro m g m' g' _ hag
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨done_eq_ref m c _ (h.1 c).1 _ _ (fun d => (hag d).1) (fun d => (hag d).2), (h.1 c).2⟩) (run_named m g)
  · exact (θ_run Cert.ReferenceIdeal.defs _ _).mono (fun r h => h 0) (Cert.ReferenceIdeal.Value.run (F := Ideal) m' g')

end Cert.RingIdeal

end
-- ==== Proof.lean ====
/-
# The claim

Kernel, ideal kernel and reference end without fault, leave their operands unchanged and every semaphore counter at zero; the ideal
kernel is the kernel over the extended reals; and it computes the reference's function there.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import proofs.«01_k».proof.Proof.RingBits.Launch
public import Idealize.ShloMosaic.Adequacy
public import Idealize.ShloMosaic.Init

@[expose] public section

noncomputable section

namespace Cert.Proof

open Idealize.ShloMosaic Idealize.SL.Sem Cert.Kernel

/-- The five claims: the two kernels' runs and the reference's run give the frames, `Algebraic` the equation. -/
theorem claim : Cert.Claim := ⟨Cert.Kernel.Gen.facts, Cert.KernelIdeal.Gen.facts, Cert.ReferenceIdeal.Gen.facts, by
  refine ⟨?_, ?_, ?_, trivial, Cert.RingIdeal.algebraic⟩
  · intro m g _
    exact (θ_run Cert.Kernel.defs _ _).mono (fun r h => ⟨fun c => (h.1 c).2, h.2⟩) (Cert.RingBits.run_named (F := Bits) m g)
  · intro m g _
    exact (θ_run Cert.KernelIdeal.defs _ _).mono (fun r h => ⟨fun c => (h.1 c).2, h.2⟩) (Cert.RingIdeal.run_named (F := Ideal) m g)
  · intro m g _
    exact (θ_run Cert.ReferenceIdeal.defs _ _).mono
      (fun r h => ⟨fun c => (h c).2, sem_eq_zero_of_no_sems (by decide) r.2⟩) (Cert.ReferenceIdeal.Value.run (F := Ideal) m g)⟩

end Cert.Proof

end
